-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S1024x5248 : Shape := ⟨2, ![1024, 5248]⟩
abbrev S128x8x128x128 : Shape := ⟨4, ![128, 8, 128, 128]⟩
abbrev S8 : Shape := ⟨1, ![8]⟩
abbrev S128 : Shape := ⟨1, ![128]⟩
abbrev S_ : Shape := ⟨0, ![]⟩
abbrev S1x128 : Shape := ⟨2, ![1, 128]⟩
abbrev S1024x1024 : Shape := ⟨2, ![1024, 1024]⟩
abbrev S64x3072 : Shape := ⟨2, ![64, 3072]⟩
abbrev S64x1024 : Shape := ⟨2, ![64, 1024]⟩
abbrev S64x128 : Shape := ⟨2, ![64, 128]⟩
abbrev S8x8x128x128 : Shape := ⟨4, ![8, 8, 128, 128]⟩
abbrev S8x64x64 : Shape := ⟨3, ![8, 64, 64]⟩
abbrev S64x64 : Shape := ⟨2, ![64, 64]⟩
abbrev S8x8x128 : Shape := ⟨3, ![8, 8, 128]⟩
abbrev S8x1x128 : Shape := ⟨3, ![8, 1, 128]⟩
abbrev S128x128 : Shape := ⟨2, ![128, 128]⟩
abbrev S64x1 : Shape := ⟨2, ![64, 1]⟩
abbrev S64x256 : Shape := ⟨2, ![64, 256]⟩
abbrev S128x64 : Shape := ⟨2, ![128, 64]⟩
abbrev S1x64 : Shape := ⟨2, ![1, 64]⟩
abbrev S1x64x64 : Shape := ⟨3, ![1, 64, 64]⟩
abbrev S1x1x128x128 : Shape := ⟨4, ![1, 1, 128, 128]⟩
abbrev S8x128 : Shape := ⟨2, ![8, 128]⟩
abbrev S16x128 : Shape := ⟨2, ![16, 128]⟩
abbrev S1x1 : Shape := ⟨2, ![1, 1]⟩
abbrev S64 : Shape := ⟨1, ![64]⟩

abbrev nBuf : Space → Nat
  | .hbm => 16
  | .vmem => 23
  | .smem => 0
  | _ => 0

abbrev bufTy : (tb : Table) → Fin (tcTables nBuf tb) → BufTy
  | .hbm, ⟨0, _⟩ => ⟨S1024x5248, .f32⟩
  | .hbm, ⟨1, _⟩ => ⟨S128x8x128x128, .f32⟩
  | .hbm, ⟨2, _⟩ => ⟨S8, .f32⟩
  | .hbm, ⟨3, _⟩ => ⟨S8, .f32⟩
  | .hbm, ⟨4, _⟩ => ⟨S128, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1024x1024, .bf16⟩
  | .hbm, ⟨15, _⟩ => ⟨S128x8x128x128, .f32⟩
  | .local _ .vmem, ⟨0, _⟩ => ⟨S64x3072, .f32⟩
  | .local _ .vmem, ⟨1, _⟩ => ⟨S64x3072, .f32⟩
  | .local _ .vmem, ⟨2, _⟩ => ⟨S64x1024, .f32⟩
  | .local _ .vmem, ⟨3, _⟩ => ⟨S64x1024, .f32⟩
  | .local _ .vmem, ⟨4, _⟩ => ⟨S64x128, .f32⟩
  | .local _ .vmem, ⟨5, _⟩ => ⟨S64x128, .f32⟩
  | .local _ .vmem, ⟨6, _⟩ => ⟨S8x8x128x128, .f32⟩
  | .local _ .vmem, ⟨7, _⟩ => ⟨S8x8x128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S64x1024, .bf16⟩
  | .local _ .vmem, ⟨12, _⟩ => ⟨S64x1024, .bf16⟩
  | .local _ .vmem, ⟨13, _⟩ => ⟨S8x8x128x128, .f32⟩
  | .local _ .vmem, ⟨14, _⟩ => ⟨S8x8x128x128, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S8x64x64, .f32⟩
  | .local _ .vmem, ⟨22, _⟩ => ⟨S64x128, .f32⟩
  | _, _ => ⟨S1024x5248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32_184 : BitVec 32 := 8#32
  let v700 : BitVec 32 := Scalar.addi c0_i32 c8_i32_184
  let c1_i32 : BitVec 32 := 1#32
  ⟨c0_i32, v700, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  v911
def k0_off1 (k0_t1 : Fin k0_t1_loop.trips) : Fin 4 → Nat :=
  let c0_i32 : BitVec 32 := 0#32
  let c1_i32 : BitVec 32 := 1#32
  let arg18 : BitVec 32 := Scf.iv c0_i32 c1_i32 k0_t1
  let v913 : Index := Scalar.indexCast arg18
  let c0_309 : Index := 0#32
  let c0_310 : Index := 0#32
  let c0_311 : Index := 0#32
  ![v913.toNat, 0, 0, 0]
def k0_off2 (k0_t1 : Fin k0_t1_loop.trips) : Fin 4 → Nat :=
  let c0_i32 : BitVec 32 := 0#32
  let c1_i32 : BitVec 32 := 1#32
  let arg18 : BitVec 32 := Scf.iv c0_i32 c1_i32 k0_t1
  let v916 : Index := Scalar.indexCast arg18
  let c1_312 : Index := 1#32
  let c0_313 : Index := 0#32
  let c0_314 : Index := 0#32
  ![v916.toNat, 1, 0, 0]
def k0_off3 (k0_t1 : Fin k0_t1_loop.trips) : Fin 4 → Nat :=
  let c0_i32 : BitVec 32 := 0#32
  let c1_i32 : BitVec 32 := 1#32
  let arg18 : BitVec 32 := Scf.iv c0_i32 c1_i32 k0_t1
  let v919 : Index := Scalar.indexCast arg18
  let c2_315 : Index := 2#32
  let c0_316 : Index := 0#32
  let c0_317 : Index := 0#32
  ![v919.toNat, 2, 0, 0]
def k0_off4 (k0_t1 : Fin k0_t1_loop.trips) : Fin 4 → Nat :=
  let c0_i32 : BitVec 32 := 0#32
  let c1_i32 : BitVec 32 := 1#32
  let arg18 : BitVec 32 := Scf.iv c0_i32 c1_i32 k0_t1
  let v922 : Index := Scalar.indexCast arg18
  let c3_318 : Index := 3#32
  let c0_319 : Index := 0#32
  let c0_320 : Index := 0#32
  ![v922.toNat, 3, 0, 0]
def k0_off5 (k0_t1 : Fin k0_t1_loop.trips) : Fin 4 → Nat :=
  let c0_i32 : BitVec 32 := 0#32
  let c1_i32 : BitVec 32 := 1#32
  let arg18 : BitVec 32 := Scf.iv c0_i32 c1_i32 k0_t1
  let v925 : Index := Scalar.indexCast arg18
  let c4_321 : Index := 4#32
  let c0_322 : Index := 0#32
  let c0_323 : Index := 0#32
  ![v925.toNat, 4, 0, 0]
def k0_off6 (k0_t1 : Fin k0_t1_loop.trips) : Fin 4 → Nat :=
  let c0_i32 : BitVec 32 := 0#32
  let c1_i32 : BitVec 32 := 1#32
  let arg18 : BitVec 32 := Scf.iv c0_i32 c1_i32 k0_t1
  let v928 : Index := Scalar.indexCast arg18
  let c5_324 : Index := 5#32
  let c0_325 : Index := 0#32
  let c0_326 : Index := 0#32
  ![v928.toNat, 5, 0, 0]
def k0_off7 (k0_t1 : Fin k0_t1_loop.trips) : Fin 4 → Nat :=
  let c0_i32 : BitVec 32 := 0#32
  let c1_i32 : BitVec 32 := 1#32
  let arg18 : BitVec 32 := Scf.iv c0_i32 c1_i32 k0_t1
  let v931 : Index := Scalar.indexCast arg18
  let c6_327 : Index := 6#32
  let c0_328 : Index := 0#32
  let c0_329 : Index := 0#32
  ![v931.toNat, 6, 0, 0]
def k0_off8 (k0_t1 : Fin k0_t1_loop.trips) : Fin 4 → Nat :=
  let c0_i32 : BitVec 32 := 0#32
  let c1_i32 : BitVec 32 := 1#32
  let arg18 : BitVec 32 := Scf.iv c0_i32 c1_i32 k0_t1
  let v934 : Index := Scalar.indexCast arg18
  let c7_330 : Index := 7#32
  let c0_331 : Index := 0#32
  let c0_332 : Index := 0#32
  ![v934.toNat, 7, 0, 0]
def k0_off9 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v937 : Index := Scalar.indexCast v912
  let c0_333 : Index := 0#32
  ![v937.toNat, 0]
def k0_off10 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v945 : Index := Scalar.indexCast v912
  let c128_336 : Index := 128#32
  ![v945.toNat, 128]
def k0_off11 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v953 : Index := Scalar.indexCast v912
  let c256_339 : Index := 256#32
  ![v953.toNat, 256]
def k0_off12 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v961 : Index := Scalar.indexCast v912
  let c384_342 : Index := 384#32
  ![v961.toNat, 384]
def k0_off13 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v969 : Index := Scalar.indexCast v912
  let c512_345 : Index := 512#32
  ![v969.toNat, 512]
def k0_off14 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v977 : Index := Scalar.indexCast v912
  let c640_348 : Index := 640#32
  ![v977.toNat, 640]
def k0_off15 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v985 : Index := Scalar.indexCast v912
  let c768_351 : Index := 768#32
  ![v985.toNat, 768]
def k0_off16 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v993 : Index := Scalar.indexCast v912
  let c896_354 : Index := 896#32
  ![v993.toNat, 896]
def k0_off17 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_308 : BitVec 32 := 8#32
  let v911 : BitVec 32 := Scalar.muli arg18 c8_i32_308
  let v912 : BitVec 32 := v911
  let v1073 : Index := Scalar.indexCast v912
  let c0_381 : Index := 0#32
  ![v1073.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2.lean ====
abbrev S4x2048x2048 : Shape := ⟨3, ![4, 2048, 2048]⟩
abbrev S136x6x2048 : Shape := ⟨3, ![136, 6, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1x1024x2048 : Shape := ⟨3, ![1, 1024, 2048]⟩
abbrev S1x6x2048 : Shape := ⟨3, ![1, 6, 2048]⟩
abbrev S2048x256 : Shape := ⟨2, ![2048, 256]⟩
abbrev S256x2048 : Shape := ⟨2, ![256, 2048]⟩
abbrev S1024x2048 : Shape := ⟨2, ![1024, 2048]⟩
abbrev S1x256x2048 : Shape := ⟨3, ![1, 256, 2048]⟩
abbrev S1x1x2048 : Shape := ⟨3, ![1, 1, 2048]⟩
abbrev S1x256 : Shape := ⟨2, ![1, 256]⟩
abbrev S1x256x1 : Shape := ⟨3, ![1, 256, 1]⟩
abbrev S256x256 : Shape := ⟨2, ![256, 256]⟩
abbrev S1024x256 : Shape := ⟨2, ![1024, 256]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S136x6x2048, .f32⟩
  | .hbm, ⟨2, _⟩ => ⟨S2048, .f32⟩
  | .hbm, ⟨3, _⟩ => ⟨S2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S1x2048, .f32⟩
  | .hbm, ⟨8, _⟩ => ⟨S1x2048, .f32⟩
  | .hbm, ⟨9, _⟩ => ⟨S4x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x1024x2048, .f32⟩
  | .local _ .vmem, ⟨13, _⟩ => ⟨S1x1024x2048, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let c0_i32_4 : BitVec 32 := 0#32
  let v9 : BitVec 1 := Scalar.cmpi .sgt arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S4x2048x2048 : Shape := ⟨3, ![4, 2048, 2048]⟩
abbrev S136x6x2048 : Shape := ⟨3, ![136, 6, 2048]⟩
abbrev S2048 : Shape := ⟨1, ![2048]⟩
abbrev S2048x5632 : Shape := ⟨2, ![2048, 5632]⟩
abbrev S5632x2048 : Shape := ⟨2, ![5632, 2048]⟩
abbrev S4x1x2048 : Shape := ⟨3, ![4, 1, 2048]⟩
abbrev S4x2048 : Shape := ⟨2, ![4, 2048]⟩
abbrev S_ : Shape := ⟨0, ![]⟩
abbrev S4x2048x1 : Shape := ⟨3, ![4, 2048, 1]⟩
abbrev S1x1x2048 : Shape := ⟨3, ![1, 1, 2048]⟩
abbrev S4x2048x5632 : Shape := ⟨3, ![4, 2048, 5632]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S136x6x2048, .f32⟩
  | .hbm, ⟨2, _⟩ => ⟨S2048, .f32⟩
  | .hbm, ⟨3, _⟩ => ⟨S2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x2048, .f32⟩
  | .hbm, ⟨15, _⟩ => ⟨S4x1x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x1x2048, .f32⟩
  | .hbm, ⟨34, _⟩ => ⟨S4x1x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S_, .f32⟩
  | .hbm, ⟨43, _⟩ => ⟨S4x2048x5632, .f32⟩
  | .hbm, ⟨44, _⟩ => ⟨S4x2048x5632, .f32⟩
  | .hbm, ⟨45, _⟩ => ⟨S_, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S4x2048x5632, .f32⟩
  | .hbm, ⟨51, _⟩ => ⟨S4x2048x2048, .f32⟩
  | .hbm, ⟨52, _⟩ => ⟨S4x2048x2048, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1, .f32⟩
  | .hbm, ⟨63, _⟩ => ⟨S4x2048x2048, .f32⟩
  | .hbm, ⟨64, _⟩ => ⟨S4x2048x2048, .f32⟩
  | .hbm, ⟨65, _⟩ => ⟨S1x1x2048, .f32⟩
  | .hbm, ⟨66, _⟩ => ⟨S4x2048x2048, .f32⟩
  | .hbm, ⟨67, _⟩ => ⟨S4x2048x2048, .f32⟩
  | .hbm, ⟨68, _⟩ => ⟨S4x2048x2048, .f32⟩
  | .hbm, ⟨69, _⟩ => ⟨S4x2048x2048, .f32⟩
  | .hbm, ⟨70, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel3.lean ====
abbrev S128x8x2048 : Shape := ⟨3, ![128, 8, 2048]⟩
abbrev S136x6x2048 : Shape := ⟨3, ![136, 6, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S128x6x2048 : Shape := ⟨3, ![128, 6, 2048]⟩
abbrev S2048x256 : Shape := ⟨2, ![2048, 256]⟩
abbrev S256x2048 : Shape := ⟨2, ![256, 2048]⟩
abbrev S1024x2048 : Shape := ⟨2, ![1024, 2048]⟩
abbrev S32x8x2048 : Shape := ⟨3, ![32, 8, 2048]⟩
abbrev S32x1x2048 : Shape := ⟨3, ![32, 1, 2048]⟩
abbrev S32x8 : Shape := ⟨2, ![32, 8]⟩
abbrev S32x8x1 : Shape := ⟨3, ![32, 8, 1]⟩
abbrev S1x1x2048 : Shape := ⟨3, ![1, 1, 2048]⟩
abbrev S256x256 : Shape := ⟨2, ![256, 256]⟩
abbrev S1024x256 : Shape := ⟨2, ![1024, 256]⟩

abbrev nBuf : Space → Nat
  | .hbm => 10
  | .vmem => 12
  | .smem => 0
  | _ => 0

abbrev bufTy : (tb : Table) → Fin (tcTables nBuf tb) → BufTy
  | .hbm, ⟨0, _⟩ => ⟨S128x8x2048, .f32⟩
  | .hbm, ⟨1, _⟩ => ⟨S136x6x2048, .f32⟩
  | .hbm, ⟨2, _⟩ => ⟨S2048, .f32⟩
  | .hbm, ⟨3, _⟩ => ⟨S2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S1x2048, .f32⟩
  | .hbm, ⟨8, _⟩ => ⟨S1x2048, .f32⟩
  | .hbm, ⟨9, _⟩ => ⟨S128x8x2048, .f32⟩
  | .local _ .vmem, ⟨0, _⟩ => ⟨S128x8x2048, .f32⟩
  | .local _ .vmem, ⟨1, _⟩ => ⟨S128x6x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S128x8x2048, .f32⟩
  | .local _ .vmem, ⟨11, _⟩ => ⟨S1024x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let c0_i32_4 : BitVec 32 := 0#32
  let v9 : BitVec 1 := Scalar.cmpi .sgt arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  let c0_i32_8 : BitVec 32 := 0#32
  ![v17.toNat, c0_i32_6.toNat, c0_i32_7.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 1 → Memref sig .tc .vmem S128x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference3Ideal.lean ====
abbrev S128x8x2048 : Shape := ⟨3, ![128, 8, 2048]⟩
abbrev S136x6x2048 : Shape := ⟨3, ![136, 6, 2048]⟩
abbrev S2048 : Shape := ⟨1, ![2048]⟩
abbrev S2048x5632 : Shape := ⟨2, ![2048, 5632]⟩
abbrev S5632x2048 : Shape := ⟨2, ![5632, 2048]⟩
abbrev S128x1x2048 : Shape := ⟨3, ![128, 1, 2048]⟩
abbrev S128x2048 : Shape := ⟨2, ![128, 2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S128x8x5632 : Shape := ⟨3, ![128, 8, 5632]⟩

abbrev nBuf : Space → Nat
  | .hbm => 71
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S136x6x2048, .f32⟩
  | .hbm, ⟨2, _⟩ => ⟨S2048, .f32⟩
  | .hbm, ⟨3, _⟩ => ⟨S2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S128x1x2048, .f32⟩
  | .hbm, ⟨8, _⟩ => ⟨S128x2048, .f32⟩
  | .hbm, ⟨9, _⟩ => ⟨S128x1x2048, .f32⟩
  | .hbm, ⟨10, _⟩ => ⟨S128x1x2048, .f32⟩
  | .hbm, ⟨11, _⟩ => ⟨S128x2048, .f32⟩
  | .hbm, ⟨12, _⟩ => ⟨S128x1x2048, .f32⟩
  | .hbm, ⟨13, _⟩ => ⟨S128x1x2048, .f32⟩
  | .hbm, ⟨14, _⟩ => ⟨S128x2048, .f32⟩
  | .hbm, ⟨15, _⟩ => ⟨S128x1x2048, .f32⟩
  | .hbm, ⟨16, _⟩ => ⟨S128x8x2048, .f32⟩
  | .hbm, ⟨17, _⟩ => ⟨S_, .f32⟩
  | .hbm, ⟨18, _⟩ => ⟨S128x8, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S128x8x1, .f32⟩
  | .hbm, ⟨27, _⟩ => ⟨S128x8x2048, .f32⟩
  | .hbm, ⟨28, _⟩ => ⟨S128x8x2048, .f32⟩
  | .hbm, ⟨29, _⟩ => ⟨S1x1x2048, .f32⟩
  | .hbm, ⟨30, _⟩ => ⟨S128x8x2048, .f32⟩
  | .hbm, ⟨31, _⟩ => ⟨S128x8x2048, .f32⟩
  | .hbm, ⟨32, _⟩ => ⟨S_, .f32⟩
  | .hbm, ⟨33, _⟩ => ⟨S128x1x2048, .f32⟩
  | .hbm, ⟨34, _⟩ => ⟨S128x1x2048, .f32⟩
  | .hbm, ⟨35, _⟩ => ⟨S128x8x2048, .f32⟩
  | .hbm, ⟨36, _⟩ => ⟨S128x8x2048, .f32⟩
  | .hbm, ⟨37, _⟩ => ⟨S128x8x2048, .f32⟩
  | .hbm, ⟨38, _⟩ => ⟨S128x8x2048, .f32⟩
  | .hbm, ⟨39, _⟩ => ⟨S128x8x5632, .f32⟩
  | .hbm, ⟨40, _⟩ => ⟨S128x8x5632, .f32⟩
  | .hbm, ⟨41, _⟩ => ⟨S128x8x5632, .f32⟩
  | .hbm, ⟨42, _⟩ => ⟨S_, .f32⟩
  | .hbm, ⟨43, _⟩ => ⟨S128x8x5632, .f32⟩
  | .hbm, ⟨44, _⟩ => ⟨S128x8x5632, .f32⟩
  | .hbm, ⟨45, _⟩ => ⟨S_, .f32⟩
  | .hbm, ⟨46, _⟩ => ⟨S128x8x5632, .f32⟩
  | .hbm, ⟨47, _⟩ => ⟨S128x8x5632, .f32⟩
  | .hbm, ⟨48, _⟩ => ⟨S128x8x5632, .f32⟩
  | .hbm, ⟨49, _⟩ => ⟨S128x8x5632, .f32⟩
  | .hbm, ⟨50, _⟩ => ⟨S128x8x5632, .f32⟩
  | .hbm, ⟨51, _⟩ => ⟨S128x8x2048, .f32⟩
  | .hbm, ⟨52, _⟩ => ⟨S128x8x2048, .f32⟩
  | .hbm, ⟨53, _⟩ => ⟨S_, .f32⟩
  | .hbm, ⟨54, _⟩ => ⟨S128x8, .f32⟩
  | .hbm, ⟨55, _⟩ => ⟨S128x8x1, .f32⟩
  | .hbm, ⟨56, _⟩ => ⟨S_, .f32⟩
  | .hbm, ⟨57, _⟩ => ⟨S128x8x1, .f32⟩
  | .hbm, ⟨58, _⟩ => ⟨S128x8x1, .f32⟩
  | .hbm, ⟨59, _⟩ => ⟨S_, .f32⟩
  | .hbm, ⟨60, _⟩ => ⟨S128x8x1, .f32⟩
  | .hbm, ⟨61, _⟩ => ⟨S128x8x1, .f32⟩
  | .hbm, ⟨62, _⟩ => ⟨S128x8x1, .f32⟩
  | .hbm, ⟨63, _⟩ => ⟨S128x8x2048, .f32⟩
  | .hbm, ⟨64, _⟩ => ⟨S128x8x2048, .f32⟩
  | .hbm, ⟨65, _⟩ => ⟨S1x1x2048, .f32⟩
  | .hbm, ⟨66, _⟩ => ⟨S128x8x2048, .f32⟩
  | .hbm, ⟨67, _⟩ => ⟨S128x8x2048, .f32⟩
  | .hbm, ⟨68, _⟩ => ⟨S128x8x2048, .f32⟩
  | .hbm, ⟨69, _⟩ => ⟨S128x8x2048, .f32⟩
  | .hbm, ⟨70, _⟩ => ⟨S128x8x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel4.lean ====
abbrev S8192x1024 : Shape := ⟨2, ![8192, 1024]⟩
abbrev S2048x2048 : Shape := ⟨2, ![2048, 2048]⟩
abbrev S4x2048x2048 : Shape := ⟨3, ![4, 2048, 2048]⟩
abbrev S136x6x2048 : Shape := ⟨3, ![136, 6, 2048]⟩
abbrev S2048 : Shape := ⟨1, ![2048]⟩
abbrev S1024x2048 : Shape := ⟨2, ![1024, 2048]⟩
abbrev S1x2048 : Shape := ⟨2, ![1, 2048]⟩
abbrev S512x1024 : Shape := ⟨2, ![512, 1024]⟩
abbrev S1x512x2048 : Shape := ⟨3, ![1, 512, 2048]⟩
abbrev S1x6x2048 : Shape := ⟨3, ![1, 6, 2048]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2048x2048, .f32⟩
  | .hbm, ⟨3, _⟩ => ⟨S4x2048x2048, .f32⟩
  | .hbm, ⟨4, _⟩ => ⟨S136x6x2048, .f32⟩
  | .hbm, ⟨5, _⟩ => ⟨S2048, .f32⟩
  | .hbm, ⟨6, _⟩ => ⟨S1024x2048, .f32⟩
  | .hbm, ⟨7, _⟩ => ⟨S1024x2048, .bf16⟩
  | .hbm, ⟨8, _⟩ => ⟨S1024x2048, .f32⟩
  | .hbm, ⟨9, _⟩ => ⟨S1024x2048, .bf16⟩
  | .hbm, ⟨10, _⟩ => ⟨S1x2048, .f32⟩
  | .hbm, ⟨11, _⟩ => ⟨S4x2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S1x512x2048, .f32⟩
  | .local _ .vmem, ⟨12, _⟩ => ⟨S1x512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x1024 : Shape := ⟨2, ![8192, 1024]⟩
abbrev S2048x2048 : Shape := ⟨2, ![2048, 2048]⟩
abbrev S4x2048x2048 : Shape := ⟨3, ![4, 2048, 2048]⟩
abbrev S136x6x2048 : Shape := ⟨3, ![136, 6, 2048]⟩
abbrev S2048 : Shape := ⟨1, ![2048]⟩
abbrev S4x1x2048 : Shape := ⟨3, ![4, 1, 2048]⟩
abbrev S4x2048 : Shape := ⟨2, ![4, 2048]⟩
abbrev S4x2048x1024 : Shape := ⟨3, ![4, 2048, 1024]⟩
abbrev S_ : Shape := ⟨0, ![]⟩
abbrev S4x2048x1 : Shape := ⟨3, ![4, 2048, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2048x2048, .f32⟩
  | .hbm, ⟨3, _⟩ => ⟨S4x2048x2048, .f32⟩
  | .hbm, ⟨4, _⟩ => ⟨S136x6x2048, .f32⟩
  | .hbm, ⟨5, _⟩ => ⟨S2048, .f32⟩
  | .hbm, ⟨6, _⟩ => ⟨S4x1x2048, .f32⟩
  | .hbm, ⟨7, _⟩ => ⟨S4x2048, .f32⟩
  | .hbm, ⟨8, _⟩ => ⟨S4x1x2048, .f32⟩
  | .hbm, ⟨9, _⟩ => ⟨S4x2048x1024, .bf16⟩
  | .hbm, ⟨10, _⟩ => ⟨S4x2048x1024, .f32⟩
  | .hbm, ⟨11, _⟩ => ⟨S4x2048x1024, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Run.lean ====
/- The run of one grid point's body, with what it leaves in each output, for the chunk kernel read at the ideal instance. The executor needs a
   larger search budget here than by default: a load after the per-sequence loop is read off the loop's pieces. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option sl_exec.hypHeartbeats 4000 in
set_option maxHeartbeats 3000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S64x3072 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S8x8x128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S64x1024 .bf16) (harg8 : arg8.IsWhole) (arg9 : Memref sig .tc .vmem S8x8x128x128 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S8x64x64 .f32) (harg16 : arg16.IsWhole) (arg17 : Memref sig .tc .vmem S64x128 .f32) (harg17 : arg17.IsWhole)
    (x0 : Vec F S64x3072 .f32) (x1 : Vec F S64x1024 .f32) (x2 : Vec F S64x128 .f32) (x3 : Vec F S8x8x128x128 .f32) (x4 : Vec F S1x128 .f32) (x5 : Vec F S1x128 .f32) (x6 : Vec F S1x128 .f32) :
    Σ' (L7 : List (View.Piece (Elt F) S64x1024 .bf16)), Σ' (L8 : List (View.Piece (Elt F) S8x8x128x128 .f32)), { LT6 : List (View.Piece (Elt F) S8x64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LT6) ∗ (∃ d, owns (c : Thread nD τ) arg17 fullShare d)) -∗ K ⟨⟩))
          ⊢ wp frame (wpE (defs₀ (F := F)) Variants.none c none) E (cc0_delta_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_delta_sample_eq_skeleton]; unfold cc0_delta_sample_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    have hrd0 : ∀ (𝒱 : Variants) (c : Dev nD) (bd : Option 𝒱.V) (i : grid0.Coords) (arg1 : Memref sig .tc .vmem S64x3072 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S8x8x128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S64x1024 .bf16) (harg8 : arg8.IsWhole) (arg9 : Memref sig .tc .vmem S8x8x128x128 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S8x64x64 .f32) (harg16 : arg16.IsWhole) (arg17 : Memref sig .tc .vmem S64x128 .f32) (harg17 : arg17.IsWhole) (v196 : FVec F S64x128 .f32) (v211 : FVec F S64x128 .f32) (v214 : FVec F S64x128 .f32) (v350 : FVec F S64x64 .f32) (v366 : FVec F S64x64 .f32) (v571 : FVec F S64x128 .f32) (v579 : FVec F S64x128 .f32) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg17 : BufTy.Contents (Elt F) arg17.view.ty) (hrdF : BufTy.Contents (Elt F) arg15.view.ty) (hrdB : LoadRect S64x1024), arg15.view.readAt (Elt F) hrdB (arg15.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 (Scf.trips k0_t1_loop.lb k0_t1_loop.ub k0_t1_loop.st)).2.2) = arg15.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 (Scf.trips k0_t1_loop.lb k0_t1_loop.ub k0_t1_loop.st)).2.2 S8x128.size (by sl_kernel_rfl) (hrdB.idx hrdJ))
    have hrd1 : ∀ (𝒱 : Variants) (c : Dev nD) (bd : Option 𝒱.V) (i : grid0.Coords) (arg1 : Memref sig .tc .vmem S64x3072 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S8x8x128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S64x1024 .bf16) (harg8 : arg8.IsWhole) (arg9 : Memref sig .tc .vmem S8x8x128x128 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S8x64x64 .f32) (harg16 : arg16.IsWhole) (arg17 : Memref sig .tc .vmem S64x128 .f32) (harg17 : arg17.IsWhole) (v196 : FVec F S64x128 .f32) (v211 : FVec F S64x128 .f32) (v214 : FVec F S64x128 .f32) (v350 : FVec F S64x64 .f32) (v366 : FVec F S64x64 .f32) (v571 : FVec F S64x128 .f32) (v579 : FVec F S64x128 .f32) (X_arg4 : BufTy.Contents (Elt F) arg4.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg17 : BufTy.Contents (Elt F) arg17.view.ty) (hrdF : BufTy.Contents (Elt F) arg14.view.ty) (hrdB : LoadRect S64x1024), arg14.view.readAt (Elt F) hrdB (arg14.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 (Scf.trips k0_t1_loop.lb k0_t1_loop.ub k0_t1_loop.st)).2.1) = arg14.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 (Scf.trips k0_t1_loop.lb k0_t1_loop.ub k0_t1_loop.st)).2.1 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v196 v211 v214 v350 v366 v571 v579 X_arg4 X_arg10 X_arg11 X_arg12 X_arg13 X_arg17 (Scf.trips k0_t1_loop.lb k0_t1_loop.ub k0_t1_loop.st)).2.1 S8x128.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    iexists _, _; isplitr; swap; · iexact HS7
    ipureintro; rfl

end Cert.KernelIdeal.Gen

end
-- ==== Proof.Frame.lean ====
/- The kernel's frame over the run of one grid point: covers, what the outputs hold, the body's obligation, the run of the
   whole program. -/
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (8 stores of `S64x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S64x3072 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S8x8x128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S64x1024 .bf16) (harg8 : arg8.IsWhole) (arg9 : Memref sig .tc .vmem S8x8x128x128 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S8x64x64 .f32) (harg16 : arg16.IsWhole) (arg17 : Memref sig .tc .vmem S64x128 .f32) (harg17 : arg17.IsWhole)
    (x0 : Vec F S64x3072 .f32) (x1 : Vec F S64x1024 .f32) (x2 : Vec F S64x128 .f32) (x3 : Vec F S8x8x128x128 .f32) (x4 : Vec F S1x128 .f32) (x5 : Vec F S1x128 .f32) (x6 : Vec F S1x128 .f32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1 S64x128.size (by sl_kernel_rfl) y

/-- What the run leaves in output 7's staging buffer: its pieces read back over junk. -/
def out0_A_7 (c : Dev nD) (i : grid0.Coords) (arg1 : Memref sig .tc .vmem S64x3072 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S8x8x128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S64x1024 .bf16) (harg8 : arg8.IsWhole) (arg9 : Memref sig .tc .vmem S8x8x128x128 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S8x64x64 .f32) (harg16 : arg16.IsWhole) (arg17 : Memref sig .tc .vmem S64x128 .f32) (harg17 : arg17.IsWhole)
    (x0 : Vec F S64x3072 .f32) (x1 : Vec F S64x1024 .f32) (x2 : Vec F S64x128 .f32) (x3 : Vec F S8x8x128x128 .f32) (x4 : Vec F S1x128 .f32) (x5 : Vec F S1x128 .f32) (x6 : Vec F S1x128 .f32) : Vec F S64x1024 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1)

/-- The run's pieces for output 8 tile its block (64 stores of `S1x1x128x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S64x3072 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S8x8x128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S64x1024 .bf16) (harg8 : arg8.IsWhole) (arg9 : Memref sig .tc .vmem S8x8x128x128 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S8x64x64 .f32) (harg16 : arg16.IsWhole) (arg17 : Memref sig .tc .vmem S64x128 .f32) (harg17 : arg17.IsWhole)
    (x0 : Vec F S64x3072 .f32) (x1 : Vec F S64x1024 .f32) (x2 : Vec F S64x128 .f32) (x3 : Vec F S8x8x128x128 .f32) (x4 : Vec F S1x128 .f32) (x5 : Vec F S1x128 .f32) (x6 : Vec F S1x128 .f32) (y : S8x8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1 S1x1x128x128.size (by sl_kernel_rfl) y

/-- What the run leaves in output 8's staging buffer: its pieces read back over junk. -/
def out0_A_8 (c : Dev nD) (i : grid0.Coords) (arg1 : Memref sig .tc .vmem S64x3072 .f32) (harg1 : arg1.IsWhole) (arg2 : Memref sig .tc .vmem S64x1024 .f32) (harg2 : arg2.IsWhole) (arg3 : Memref sig .tc .vmem S64x128 .f32) (harg3 : arg3.IsWhole) (arg4 : Memref sig .tc .vmem S8x8x128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S64x1024 .bf16) (harg8 : arg8.IsWhole) (arg9 : Memref sig .tc .vmem S8x8x128x128 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S8x64x64 .f32) (harg16 : arg16.IsWhole) (arg17 : Memref sig .tc .vmem S64x128 .f32) (harg17 : arg17.IsWhole)
    (x0 : Vec F S64x3072 .f32) (x1 : Vec F S64x1024 .f32) (x2 : Vec F S64x128 .f32) (x3 : Vec F S8x8x128x128 .f32) (x4 : Vec F S1x128 .f32) (x5 : Vec F S1x128 .f32) (x6 : Vec F S1x128 .f32) : Vec F S8x8x128x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1)

/-! ## What the outputs hold after each point -/

/-- What the outputs' staging buffers hold after the body at point `t` (as a tuple, in window order): the run's contents at
    the point's memrefs and input blocks. -/
def outsAt0 (c : Dev nD) (t : Fin cfg0.N) : Vec F S64x1024 .bf16 × Vec F S8x8x128x128 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (X0_0 m c t) (X0_1 m c t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (X0_0 m c t) (X0_1 m c t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_7 out0_A_8; (try dsimp only)
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, ⟨%e7, H7⟩, ⟨%e8, H8⟩, HS0, HS1, HS2, HS3, HS4, HS5, ⟨%fT6, HS6⟩, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexists _; unfold owns; iexists _; isplitr
        swap; · iexact HS6
        ipureintro; rfl
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernelFrame.lean ====
/- The frame of the kernel read on words, from the frame of the same text read at any floats: the two programs are one text. -/
module

public import proofs.«01_k».proof.Defs
public import proofs.«01_k».proof.Proof.Gen.Kernel
public import proofs.«01_k».proof.Proof.Frame

@[expose] public section

set_option maxRecDepth 16384

noncomputable section

namespace Cert.Proof.Delta

open Idealize.ShloMosaic Idealize.SL.Sem

local instance : Cert.Kernel.Facts := Cert.Kernel.Gen.facts

/-- The two programs' body tables run the same body. -/
theorem bodies_eq : @Cert.Kernel.defs₀ Bits _ _ = @Cert.KernelIdeal.defs₀ Bits _ Cert.KernelIdeal.Gen.facts := by
  unfold Cert.Kernel.defs₀ Cert.KernelIdeal.defs₀
  refine congrArg Defs.onTc ?_
  funext l a
  match l, a with
  | ⟨0, _⟩, (t, s) => rfl
  | ⟨n + 1, h⟩, _ => exact absurd h (by show ¬ n + 1 < 1; omega)

theorem defs_eq : @Cert.Kernel.defs Bits _ _ = @Cert.KernelIdeal.defs Bits _ Cert.KernelIdeal.Gen.facts :=
  congrArg (Pipeline.defs (Cert.Kernel.pcfgs (F := Bits))) bodies_eq

theorem main_eq : @Cert.Kernel.main Bits _ _ = @Cert.KernelIdeal.main Bits _ Cert.KernelIdeal.Gen.facts := rfl

theorem kernel_frame : Cert.quiescent_Kernel (hKernel := Cert.Kernel.Gen.facts) := by
  intro m ρ _
  have h := Cert.KernelIdeal.Gen.frame (F := Bits) m ρ
  rw [← defs_eq, ← main_eq] at h
  exact h

end Cert.Proof.Delta

end
-- ==== Proof.Kernel2Frame.lean ====
/- The frame of the feed-forward kernel read on words, from the frame of the same text read at any floats: the two programs
   are one text. -/
module

public import proofs.«01_k».proof.Defs
public import proofs.«01_k».proof.Proof.Gen.Kernel2
public import proofs.«01_k».proof.Proof.Gen.Kernel2Ideal.Frame

@[expose] public section

set_option maxRecDepth 16384

noncomputable section

namespace Cert.Proof.Ffn

open Idealize.ShloMosaic Idealize.SL.Sem

local instance : Cert.Kernel2.Facts := Cert.Kernel2.Gen.facts

/-- The two programs' body tables run the same body. -/
theorem bodies_eq : @Cert.Kernel2.defs₀ Bits _ _ = @Cert.Kernel2Ideal.defs₀ Bits _ Cert.Kernel2Ideal.Gen.facts := by
  unfold Cert.Kernel2.defs₀ Cert.Kernel2Ideal.defs₀
  refine congrArg Defs.onTc ?_
  funext l a
  match l, a with
  | ⟨0, _⟩, (t, s) => rfl
  | ⟨n + 1, h⟩, _ => exact absurd h (by show ¬ n + 1 < 1; omega)

theorem defs_eq : @Cert.Kernel2.defs Bits _ _ = @Cert.Kernel2Ideal.defs Bits _ Cert.Kernel2Ideal.Gen.facts :=
  congrArg (Pipeline.defs (Cert.Kernel2.pcfgs (F := Bits))) bodies_eq

theorem main_eq : @Cert.Kernel2.main Bits _ = @Cert.Kernel2Ideal.main Bits _ := rfl

theorem kernel2_frame : Cert.quiescent_Kernel2 (hKernel2 := Cert.Kernel2.Gen.facts) := by
  intro m ρ _
  have h := Cert.Kernel2Ideal.Gen.frame (F := Bits) m ρ
  rw [← defs_eq, ← main_eq] at h
  exact h

end Cert.Proof.Ffn

end

end
-- ==== Proof.Kernel3Frame.lean ====
/- The frame of the feed-forward kernel of the second group read on words, from the frame of the same text read at any floats: the two programs
   are one text. -/
module

public import proofs.«01_k».proof.Defs
public import proofs.«01_k».proof.Proof.Gen.Kernel3
public import proofs.«01_k».proof.Proof.Gen.Kernel3Ideal.Frame

@[expose] public section

set_option maxRecDepth 16384

noncomputable section

namespace Cert.Proof.SFfn

open Idealize.ShloMosaic Idealize.SL.Sem

local instance : Cert.Kernel3.Facts := Cert.Kernel3.Gen.facts

/-- The two programs' body tables run the same body. -/
theorem bodies_eq : @Cert.Kernel3.defs₀ Bits _ _ = @Cert.Kernel3Ideal.defs₀ Bits _ Cert.Kernel3Ideal.Gen.facts := by
  unfold Cert.Kernel3.defs₀ Cert.Kernel3Ideal.defs₀
  refine congrArg Defs.onTc ?_
  funext l a
  match l, a with
  | ⟨0, _⟩, (t, s) => rfl
  | ⟨n + 1, h⟩, _ => exact absurd h (by show ¬ n + 1 < 1; omega)

theorem defs_eq : @Cert.Kernel3.defs Bits _ _ = @Cert.Kernel3Ideal.defs Bits _ Cert.Kernel3Ideal.Gen.facts :=
  congrArg (Pipeline.defs (Cert.Kernel3.pcfgs (F := Bits))) bodies_eq

theorem main_eq : @Cert.Kernel3.main Bits _ = @Cert.Kernel3Ideal.main Bits _ := rfl

theorem kernel3_frame : Cert.quiescent_Kernel3 (hKernel3 := Cert.Kernel3.Gen.facts) := by
  intro m ρ _
  have h := Cert.Kernel3Ideal.Gen.frame (F := Bits) m ρ
  rw [← defs_eq, ← main_eq] at h
  exact h

end Cert.Proof.SFfn

end

end
-- ==== Proof.Kernel4Frame.lean ====
/- The frame of the output projection kernel read on words, from the frame of the same text read at any floats: the two programs
   are one text. -/
module

public import proofs.«01_k».proof.Defs
public import proofs.«01_k».proof.Proof.Gen.Kernel4
public import proofs.«01_k».proof.Proof.Gen.Kernel4Ideal.Frame

@[expose] public section

set_option maxRecDepth 16384

noncomputable section

namespace Cert.Proof.Mix

open Idealize.ShloMosaic Idealize.SL.Sem

local instance : Cert.Kernel4.Facts := Cert.Kernel4.Gen.facts

/-- The two programs' body tables run the same body. -/
theorem bodies_eq : @Cert.Kernel4.defs₀ Bits _ _ = @Cert.Kernel4Ideal.defs₀ Bits _ Cert.Kernel4Ideal.Gen.facts := by
  unfold Cert.Kernel4.defs₀ Cert.Kernel4Ideal.defs₀
  refine congrArg Defs.onTc ?_
  funext l a
  match l, a with
  | ⟨0, _⟩, (t, s) => rfl
  | ⟨n + 1, h⟩, _ => exact absurd h (by show ¬ n + 1 < 1; omega)

theorem defs_eq : @Cert.Kernel4.defs Bits _ _ = @Cert.Kernel4Ideal.defs Bits _ Cert.Kernel4Ideal.Gen.facts :=
  congrArg (Pipeline.defs (Cert.Kernel4.pcfgs (F := Bits))) bodies_eq

theorem main_eq : @Cert.Kernel4.main Bits _ _ = @Cert.Kernel4Ideal.main Bits _ Cert.Kernel4Ideal.Gen.facts := rfl

theorem kernel4_frame : Cert.quiescent_Kernel4 (hKernel4 := Cert.Kernel4.Gen.facts) := by
  intro m ρ _
  have h := Cert.Kernel4Ideal.Gen.frame (F := Bits) m ρ
  rw [← defs_eq, ← main_eq] at h
  exact h

end Cert.Proof.Mix

end

end
-- ==== Proof.FfnSpec.lean ====
/- The feed-forward block of the layer, row by row, over the extended reals. -/
module

public import Idealize.ShloMosaic.Lib.Pointwise

@[expose] public section

noncomputable section

namespace Cert.Proof.Ffn

open Idealize.ShloMosaic

/-- One token's row of the model width. -/
abbrev Row := Fin 2048 → EReal

/-- A row divided by its root mean square and scaled by a gain. -/
def norm (v g : Row) (k : Fin 2048) : EReal :=
  v k * Ideal.rsqrt (Ideal.div (∑ l, v l * v l) (Ideal.ofBits .f32 0x45000000#32) + Ideal.ofBits .f32 0x358637BD#32) * g k

/-- The normalised row, scaled and shifted by the token's modulation. -/
def hid (x sh sc g : Row) (k : Fin 2048) : EReal := norm x g k * (1 + sc k) + sh k

/-- One hidden unit: the gate column's product through SiLU, times the up column's product. -/
def act (h wg wu : Row) : EReal :=
  (∑ k, h k * wg k) * Ideal.logistic (∑ k, h k * wg k) * ∑ k, h k * wu k

/-- What the block adds to the residual stream, from the down projection's row `f`. -/
def fin (x gt f g : Row) (k : Fin 2048) : EReal := x k + gt k * norm f g k

end Cert.Proof.Ffn

end

end
-- ==== Proof.FfnRef.lean ====
/- The reference's feed-forward block read at an index. -/
module

public import proofs.«01_k».proof.Proof.FfnSpec
public import proofs.«01_k».proof.Proof.Gen.Reference2Ideal.Read

@[expose] public section

set_option maxRecDepth 16384

noncomputable section

namespace Cert.Proof.Ffn

open Idealize.ShloMosaic Cert.Reference2Ideal Cert.Reference2Ideal.Read

variable (x0 : Vec Ideal S4x2048x2048 .f32) (x1 : Vec Ideal S136x6x2048 .f32) (x2 x3 : Vec Ideal S2048 .f32)
  (x4 x5 : Vec Ideal S2048x5632 .f32) (x6 : Vec Ideal S5632x2048 .f32)

/-- Row `j` of the modulation of the sequence `b` of the prompt. -/
abbrev modRow (j : Fin 6) (b : Fin 4) : Row := fun k => x1 (ix3 ⟨128 + b.val, by omega⟩ j k)

/-- The hidden row of token `r` of sequence `b`. -/
abbrev hidRow (b : Fin 4) (r : Fin 2048) : Row :=
  hid (fun k => x0 (ix3 b r k)) (modRow x1 3 b) (modRow x1 4 b) (fun k => x2 (ix1 k))

/-- The down projection's row of token `r` of sequence `b`. -/
def downRow (b : Fin 4) (r : Fin 2048) : Row := fun d =>
  ∑ e : Fin 5632, act (hidRow x0 x1 x2 b r) (fun k => x4 (ix2 k e)) (fun k => x5 (ix2 k e)) * x6 (ix2 e d)

/-- The block's result at a token. -/
def result (b : Fin 4) (r : Fin 2048) : Row :=
  fin (fun k => x0 (ix3 b r k)) (modRow x1 5 b) (downRow x0 x1 x2 x4 x5 x6 b r) (fun k => x3 (ix1 k))

theorem hidden_apply (b : Fin 4) (r : Fin 2048) (k : Fin 2048) :
    val_main_v27 (F := Ideal) x0 x1 x2 (ix3 b r k) = hidRow x0 x1 x2 b r k := by
  pointwise [val_main_v27, val_main_v26, val_main_v25, val_main_v24, val_main_v23, val_main_v22, val_main_cst_2,
    val_main_v21, val_main_v20, val_main_v19, val_main_v18, val_main_v17, val_main_v16, val_main_v15, val_main_v14,
    val_main_cst_1, val_main_v13, val_main_v12, val_main_cst_0, val_main_v11, val_main_v10, val_main_cst, val_main_v9,
    val_main_v5, val_main_v4, val_main_v3, val_main_v2, val_main_v1, val_main_v0, hid, norm]
  try rfl

theorem act_apply (b : Fin 4) (r : Fin 2048) (e : Fin 5632) :
    val_main_v31 (F := Ideal) x0 x1 x2 x4 x5 (ix3 b r e)
      = act (hidRow x0 x1 x2 b r) (fun k => x4 (ix2 k e)) (fun k => x5 (ix2 k e)) := by
  simp only [act, ← hidden_apply]
  unfold val_main_v31 val_main_v30 val_main_v29 val_main_call0_v5 val_main_call0_v4 val_main_call0_cst_0 val_main_call0_v3
    val_main_call0_v2 val_main_call0_cst val_main_call0_v1 val_main_call0_v0 val_main_v28
  generalize val_main_v27 (F := Ideal) x0 x1 x2 = y
  pointwise
  try rfl

theorem down_apply (b : Fin 4) (r : Fin 2048) (d : Fin 2048) :
    val_main_v32 (F := Ideal) x0 x1 x2 x4 x5 x6 (ix3 b r d) = downRow x0 x1 x2 x4 x5 x6 b r d := by
  simp only [downRow, ← act_apply]
  unfold val_main_v32
  generalize val_main_v31 (F := Ideal) x0 x1 x2 x4 x5 = y
  pointwise
  try rfl

theorem result_apply (b : Fin 4) (r : Fin 2048) (k : Fin 2048) :
    val_main_v48 (F := Ideal) x0 x1 x2 x3 x4 x5 x6 (ix3 b r k) = result x0 x1 x2 x3 x4 x5 x6 b r k := by
  simp only [result, fin, norm, ← down_apply]
  unfold val_main_v48 val_main_v47 val_main_v46 val_main_v45 val_main_v44 val_main_v43 val_main_v42 val_main_v41 val_main_v40
    val_main_v39 val_main_v38 val_main_cst_5 val_main_v37 val_main_v36 val_main_cst_4 val_main_v35 val_main_v34
    val_main_cst_3 val_main_v33
  generalize val_main_v32 (F := Ideal) x0 x1 x2 x4 x5 x6 = y
  pointwise [val_main_v8, val_main_v7, val_main_v6]
  try rfl

end Cert.Proof.Ffn

end

end
-- ==== Proof.FfnPay.lean ====
/- What each stored value of the feed-forward kernel's body is at an index, row by row. -/
module

public import proofs.«01_k».proof.Proof.FfnSpec
public import proofs.«01_k».proof.Proof.Gen.Kernel2Ideal.Skeleton

@[expose] public section

set_option maxRecDepth 16384

noncomputable section

namespace Cert.Proof.Ffn

open Idealize.ShloMosaic Cert.Kernel2Ideal Cert.Kernel2Ideal.Gen

/-- A hidden block's contribution to the down projection's row: `256` hidden units from the blocks of the three weights. -/
def part (h : Row) (wg wu : Vec Ideal S2048x256 .f32) (wd : Vec Ideal S256x2048 .f32) (d : Fin 2048) : EReal :=
  ∑ e : Fin 256, act h (fun k => wg (ix2 k e)) (fun k => wu (ix2 k e)) * wd (ix2 e d)

section hidden

variable (v13 : Vec Ideal S1x256x2048 .f32) (v14 : Vec Ideal S1x2048 .f32) (v16 v17 : Vec Ideal S1x1x2048 .f32)
  (wg wu : Vec Ideal S2048x256 .f32) (wd : Vec Ideal S256x2048 .f32) (r : Fin 256) (k : Fin 2048)

/-- The modulated row a part of the body computes from its loads. -/
abbrev hrow : Row :=
  hid (fun l => v13 (ix3 0 r l)) (fun l => v17 (ix3 0 0 l)) (fun l => v16 (ix3 0 0 l)) (fun l => v14 (ix2 0 l))

theorem pay3_apply : k0_pay3 v13 v14 v16 v17 (ix2 r k) = hrow v13 v14 v16 v17 r k := by
  pointwise [k0_pay3, hid, norm]

theorem pay4_apply : k0_pay4 v13 v14 v16 v17 (ix2 r k) = hrow v13 v14 v16 v17 r k := by
  pointwise [k0_pay4, k0_pay3, hid, norm]

theorem pay8_apply : k0_pay8 v13 v14 v16 v17 (ix2 r k) = hrow v13 v14 v16 v17 r k := by
  pointwise [k0_pay8, hid, norm]

theorem pay9_apply : k0_pay9 (k0_pay8 v13 v14 v16 v17) (ix2 r k) = hrow v13 v14 v16 v17 r k := by
  pointwise [k0_pay9, k0_pay8, hid, norm]

theorem pay13_apply :
    k0_pay13 v16 v17 (k0_pay11 v13) (k0_pay12 v14) (ix2 r k) = hrow v13 v14 v16 v17 r k := by
  pointwise [k0_pay13, k0_pay11, k0_pay12, hid, norm]

theorem pay14_apply :
    k0_pay14 v16 v17 (k0_pay11 v13) (k0_pay12 v14) (ix2 r k) = hrow v13 v14 v16 v17 r k := by
  pointwise [k0_pay14, k0_pay13, k0_pay11, k0_pay12, hid, norm]

theorem pay17_apply : k0_pay17 v13 (k0_pay16 v14) v16 v17 (ix2 r k) = hrow v13 v14 v16 v17 r k := by
  pointwise [k0_pay17, k0_pay16, hid, norm]

theorem pay18_apply : k0_pay18 v13 (k0_pay16 v14) v16 v17 (ix2 r k) = hrow v13 v14 v16 v17 r k := by
  pointwise [k0_pay18, k0_pay17, k0_pay16, hid, norm]

theorem pay7_apply :
    k0_pay7 (k0_pay3 v13 v14 v16 v17) (k0_pay5 v13 v14 v16 v17 wg) (k0_pay6 wu) (constant S256x256 .f32 0x00000000#32) wd (ix3 0 r k)
      = part (hrow v13 v14 v16 v17 r) wg wu wd k := by
  simp only [part, act, ← pay3_apply v13 v14 v16 v17 r]
  pointwise [k0_pay7, k0_pay5, k0_pay6]
  try rfl

theorem pay10_apply :
    k0_pay10 (k0_pay8 v13 v14 v16 v17) wg wu wd (ix3 0 r k) = part (hrow v13 v14 v16 v17 r) wg wu wd k := by
  simp only [part, act, ← pay8_apply v13 v14 v16 v17 r]
  pointwise [k0_pay10]
  try rfl

theorem pay15_apply :
    k0_pay15 v16 v17 (k0_pay11 v13) (k0_pay12 v14) wg wu wd (ix3 0 r k) = part (hrow v13 v14 v16 v17 r) wg wu wd k := by
  simp only [part, act, ← pay13_apply v13 v14 v16 v17 r]
  pointwise [k0_pay15]
  try rfl

theorem pay19_apply :
    k0_pay19 v13 (k0_pay16 v14) v16 v17 wg wu wd (ix3 0 r k) = part (hrow v13 v14 v16 v17 r) wg wu wd k := by
  simp only [part, act, ← pay17_apply v13 v14 v16 v17 r]
  pointwise [k0_pay19]
  try rfl

end hidden

/-- A middle point's stored block: what was there plus the point's contribution. -/
theorem pay1_apply (acc : Vec Ideal S1x1024x2048 .f32) (h : Vec Ideal S1024x2048 .bf16) (wg wu : Vec Ideal S2048x256 .f32)
    (wd : Vec Ideal S256x2048 .f32) (r : Fin 1024) (k : Fin 2048) :
    k0_pay1 acc h wg wu wd (ix3 0 r k) = acc (ix3 0 r k) + part (fun l => h (ix2 r l)) wg wu wd k := by
  simp only [part, act]
  pointwise [k0_pay1]
  try rfl

section last

variable (x acc : Vec Ideal S1x256x2048 .f32) (h : Vec Ideal S256x2048 .bf16) (wg wu : Vec Ideal S2048x256 .f32)
  (wd : Vec Ideal S256x2048 .f32) (g : Vec Ideal S1x2048 .f32) (gt : Vec Ideal S1x1x2048 .f32) (r : Fin 256) (k : Fin 2048)

/-- The down projection's finished row at a last point. -/
abbrev frow : Row := fun l => acc (ix3 0 r l) + part (fun q => h (ix2 r q)) wg wu wd l

theorem pay21_apply :
    k0_pay21 x (k0_pay20 acc h wg wu wd g) gt (ix3 0 r k)
      = fin (fun l => x (ix3 0 r l)) (fun l => gt (ix3 0 0 l)) (frow acc h wg wu wd r) (fun l => g (ix2 0 l)) k := by
  simp only [fin, norm, frow, part, act]
  pointwise [k0_pay21, k0_pay20]
  try rfl

theorem pay23_apply :
    k0_pay23 x (k0_pay22 acc h wg wu wd) g gt (ix3 0 r k)
      = fin (fun l => x (ix3 0 r l)) (fun l => gt (ix3 0 0 l)) (frow acc h wg wu wd r) (fun l => g (ix2 0 l)) k := by
  simp only [fin, norm, frow, part, act]
  pointwise [k0_pay23, k0_pay22]
  try rfl

theorem pay26_apply :
    k0_pay26 x (k0_pay24 acc h wg wu wd) (k0_pay25 acc h wg wu wd) (Scalar.ofBits .f32 0x358637BD#32) g gt (ix3 0 r k)
      = fin (fun l => x (ix3 0 r l)) (fun l => gt (ix3 0 0 l)) (frow acc h wg wu wd r) (fun l => g (ix2 0 l)) k := by
  simp only [fin, norm, frow, part, act]
  pointwise [k0_pay26, k0_pay25, k0_pay24]
  try rfl

theorem pay2_apply :
    k0_pay2 x (k0_pay27 acc h wg wu wd) g gt (ix3 0 r k)
      = fin (fun l => x (ix3 0 r l)) (fun l => gt (ix3 0 0 l)) (frow acc h wg wu wd r) (fun l => g (ix2 0 l)) k := by
  simp only [fin, norm, frow, part, act]
  pointwise [k0_pay2, k0_pay27]
  try rfl

end last

end Cert.Proof.Ffn

end

end
-- ==== Proof.FfnStep.lean ====
/- What each kind of grid point of the feed-forward kernel leaves, at an index, from what the point before left. -/
module

public import proofs.«01_k».proof.Proof.FfnPay
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Proof.Ffn

open Idealize.ShloMosaic Cert.Kernel2Ideal Cert.Kernel2Ideal.Gen Idealize.ShloMosaic.TcCoe

variable (m : (ℓ : Loc nD τ sig) → Buf (Elt Ideal) ℓ)

/-- The modulated row a block's row is at a grid point, from the point's input blocks. -/
abbrev blkHid (c : Dev nD) (t : Fin cfg0.N) (r : Fin 1024) : Row :=
  hid (fun l => iblk m c 0 t (ix3 0 r l)) (fun l => iblk m c 1 t (ix3 0 3 l)) (fun l => iblk m c 1 t (ix3 0 4 l))
    (fun l => iblk m c 2 t (ix2 0 l))

/-- The point's contribution to the down projection of a row `h`. -/
abbrev blkPart (c : Dev nD) (t : Fin cfg0.N) (h : Row) : Row := part h (iblk m c 3 t) (iblk m c 4 t) (iblk m c 5 t)

/-- A part's row of a block is the block's row, at the part's offset. -/
theorem rowRead (X : S1x1024x2048.Idx → EReal) (o : ℕ) (inb) (x : Fin 256) (r : Fin 1024) (h : (r : ℕ) = o + x) (l : Fin 2048) :
    X ((Rect.unit (s := S1x1024x2048) ![0, o, 0] ![1, 256, 2048] inb).idx (ix3 0 x l)) = X (ix3 0 r l) :=
  View.ld_unit_apply_of (e := .f32) (Val := Elt Ideal) X _ _ inb _ _ fun
    | 0 => rfl
    | 1 => h
    | 2 => (Nat.zero_add _).symm

/-- A row of the modulation is the row read at its offset. -/
theorem modRead (X : S1x6x2048.Idx → EReal) (o : ℕ) (p : Fin 6) (h : (p : ℕ) = o) (inb) (l : Fin 2048) :
    X ((Rect.unit (s := S1x6x2048) ![0, o, 0] ![1, 1, 2048] inb).idx (ix3 0 0 l)) = X (ix3 0 p l) :=
  View.ld_unit_apply_of (e := .f32) (Val := Elt Ideal) X _ _ inb _ _ fun
    | 0 => rfl
    | 1 => h
    | 2 => (Nat.zero_add _).symm

/-- A part's row of the carried rows, at the part's offset. -/
theorem scrRead (X : S1024x2048.Idx → EReal) (o : ℕ) (inb) (x : Fin 256) (r : Fin 1024) (h : (r : ℕ) = o + x) (l : Fin 2048) :
    X ((Rect.unit (s := S1024x2048) ![o, 0] ![256, 2048] inb).idx (ix2 x l)) = X (ix2 r l) :=
  View.ld_unit_apply_of (e := .bf16) (Val := Elt Ideal) X _ _ inb _ _ fun
    | 0 => h
    | 1 => (Nat.zero_add _).symm

/-- The modulated row a part of a block computes is the block's row, at the part's offset. -/
theorem hidRead (X : S1x1024x2048.Idx → EReal) (M : S1x6x2048.Idx → EReal) (G : S1x2048.Idx → EReal) (o : ℕ) (inb inb3 inb4)
    (x : Fin 256) (r : Fin 1024) (h : (r : ℕ) = o + x) :
    hrow (fun i => X ((Rect.unit (s := S1x1024x2048) ![0, o, 0] ![1, 256, 2048] inb).idx i)) G
        (fun i => M ((Rect.unit (s := S1x6x2048) ![0, 4, 0] ![1, 1, 2048] inb4).idx i))
        (fun i => M ((Rect.unit (s := S1x6x2048) ![0, 3, 0] ![1, 1, 2048] inb3).idx i)) x
      = hid (fun l => X (ix3 0 r l)) (fun l => M (ix3 0 3 l)) (fun l => M (ix3 0 4 l)) (fun l => G (ix2 0 l)) := by
  unfold hrow
  rw [funext fun l => rowRead X o inb x r h l, funext fun l => modRead M 3 3 rfl inb3 l, funext fun l => modRead M 4 4 rfl inb4 l]

/-- What a part's last point stores is the block's row, at the part's offset. -/
theorem finRead (X A : S1x1024x2048.Idx → EReal) (M : S1x6x2048.Idx → EReal) (H : S1024x2048.Idx → EReal) (G : S1x2048.Idx → EReal)
    (wg wu : Vec Ideal S2048x256 .f32) (wd : Vec Ideal S256x2048 .f32) (o : ℕ) (inb inbh inb5)
    (x : Fin 256) (r : Fin 1024) (h : (r : ℕ) = o + x) :
    fin (fun l => X ((Rect.unit (s := S1x1024x2048) ![0, o, 0] ![1, 256, 2048] inb).idx (ix3 0 x l)))
        (fun l => M ((Rect.unit (s := S1x6x2048) ![0, 5, 0] ![1, 1, 2048] inb5).idx (ix3 0 0 l)))
        (frow (fun i => A ((Rect.unit (s := S1x1024x2048) ![0, o, 0] ![1, 256, 2048] inb).idx i))
          (fun i => H ((Rect.unit (s := S1024x2048) ![o, 0] ![256, 2048] inbh).idx i)) wg wu wd x) (fun l => G (ix2 0 l))
      = fin (fun l => X (ix3 0 r l)) (fun l => M (ix3 0 5 l))
          (fun l => A (ix3 0 r l) + part (fun q => H (ix2 r q)) wg wu wd l) (fun l => G (ix2 0 l)) := by
  unfold frow
  rw [funext fun l => rowRead X o inb x r h l, funext fun l => modRead M 5 5 rfl inb5 l,
    funext fun q => scrRead H o inbh x r h q]
  simp only [fun l => rowRead A o inb x r h l]

/-- A middle point adds its contribution to the block. -/
theorem step_out (c : Dev nD) (t : Fin cfg0.N) (hb : 1 ≤ t.val % 22 ∧ t.val % 22 ≤ 20) (r : Fin 1024) (k : Fin 2048) (hn) :
    (outsAt0 m c t.val t.isLt).1 (ix3 0 r k) = (show EReal from (outsAt0 m c (t.val - 1) hn).1 (ix3 0 r k))
      + blkPart m c t (fun l => (outsAt0 m c (t.val - 1) hn).2 (ix2 r l)) k := by
  rw [outsAt0_B m c t (by omega) hb (by omega)]
  dsimp only
  frame_out
  rw [read_unread_whole]
  exact pay1_apply _ _ _ _ _ r k

/-- A middle point keeps the carried rows. -/
theorem step_scr (c : Dev nD) (t : Fin cfg0.N) (hb : 1 ≤ t.val % 22 ∧ t.val % 22 ≤ 20) (hn) :
    (outsAt0 m c t.val t.isLt).2 = (outsAt0 m c (t.val - 1) hn).2 := by
  rw [outsAt0_B m c t (by omega) hb (by omega)]
  dsimp only [sout0_B_0]

/-- A run's first point leaves the modulated rows in the carried buffer. -/
theorem first_scr (c : Dev nD) (t : Fin cfg0.N) (ha : t.val % 22 = 0) (r : Fin 1024) (k : Fin 2048) :
    (outsAt0 m c t.val t.isLt).2 (ix2 r k) = blkHid m c t r k := by
  rw [outsAt0_A m c t ha (by omega) (by omega)]
  dsimp only
  frame_out
  canon_tiles x h
  all_goals
    obtain ⟨a, b, rfl⟩ : ∃ a b, x = ix2 a b := ⟨_, _, eq_ix2 x⟩
    obtain rfl : k = b := Fin.ext h1
  · exact (pay18_apply ..).trans (congrFun (hidRead _ _ _ 768 _ _ _ a r h0) k)
  · exact (pay14_apply ..).trans (congrFun (hidRead _ _ _ 512 _ _ _ a r h0) k)
  · exact (pay9_apply ..).trans (congrFun (hidRead _ _ _ 256 _ _ _ a r h0) k)
  · exact (pay4_apply ..).trans (congrFun (hidRead _ _ _ 0 _ _ _ a r (h0.trans (Nat.zero_add _).symm)) k)

/-- A run's first point leaves its contribution in the block. -/
theorem first_out (c : Dev nD) (t : Fin cfg0.N) (ha : t.val % 22 = 0) (r : Fin 1024) (k : Fin 2048) :
    (outsAt0 m c t.val t.isLt).1 (ix3 0 r k) = blkPart m c t (blkHid m c t r) k := by
  rw [outsAt0_A m c t ha (by omega) (by omega)]
  dsimp only
  frame_out
  canon_tiles x h
  all_goals
    obtain ⟨z, a, b, rfl⟩ : ∃ z a b, x = ix3 z a b := ⟨_, _, _, eq_ix3 x⟩
    obtain rfl : k = b := Fin.ext h2
    obtain rfl : z = 0 := Subsingleton.elim _ _
  · exact (pay19_apply ..).trans (congrArg (fun h => blkPart m c t h k) (hidRead _ _ _ 768 _ _ _ a r h1))
  · exact (pay15_apply ..).trans (congrArg (fun h => blkPart m c t h k) (hidRead _ _ _ 512 _ _ _ a r h1))
  · exact (pay10_apply ..).trans (congrArg (fun h => blkPart m c t h k) (hidRead _ _ _ 256 _ _ _ a r h1))
  · exact (pay7_apply ..).trans
      (congrArg (fun h => blkPart m c t h k) (hidRead _ _ _ 0 _ _ _ a r (h1.trans (Nat.zero_add _).symm)))

/-- A run's last point finishes the block: the sum normalised, gated and added to the residual stream. -/
theorem last_out (c : Dev nD) (t : Fin cfg0.N) (hc : t.val % 22 = 21) (r : Fin 1024) (k : Fin 2048) (hn) :
    (outsAt0 m c t.val t.isLt).1 (ix3 0 r k)
      = fin (fun l => iblk m c 0 t (ix3 0 r l)) (fun l => iblk m c 1 t (ix3 0 5 l))
          (fun l => (show EReal from (outsAt0 m c (t.val - 1) hn).1 (ix3 0 r l))
            + blkPart m c t (fun q => (outsAt0 m c (t.val - 1) hn).2 (ix2 r q)) l)
          (fun l => iblk m c 6 t (ix2 0 l)) k := by
  rw [outsAt0_C m c t (by omega) (by omega) hc]
  dsimp only
  frame_out
  simp only [read_unread_whole]
  canon_tiles x h
  all_goals
    obtain ⟨z, a, b, rfl⟩ : ∃ z a b, x = ix3 z a b := ⟨_, _, _, eq_ix3 x⟩
    obtain rfl : k = b := Fin.ext h2
    obtain rfl : z = 0 := Subsingleton.elim _ _
  · exact (pay2_apply ..).trans (congrFun (finRead _ _ _ _ _ _ _ _ 768 _ _ _ a r h1) k)
  · exact (pay26_apply ..).trans (congrFun (finRead _ _ _ _ _ _ _ _ 512 _ _ _ a r h1) k)
  · exact (pay23_apply ..).trans (congrFun (finRead _ _ _ _ _ _ _ _ 256 _ _ _ a r h1) k)
  · exact (pay21_apply ..).trans (congrFun (finRead _ _ _ _ _ _ _ _ 0 _ _ _ a r (h1.trans (Nat.zero_add _).symm)) k)

end Cert.Proof.Ffn

end

end
-- ==== Proof.FfnValue.lean ====
/- The feed-forward kernel's result array: at every token, the block of the reference. -/
module

public import proofs.«01_k».proof.Proof.FfnRef
public import proofs.«01_k».proof.Proof.FfnStep

@[expose] public section

set_option maxRecDepth 16384

noncomputable section

namespace Cert.Proof.Ffn

open Idealize.ShloMosaic Cert.Kernel2Ideal Cert.Kernel2Ideal.Gen Idealize.ShloMosaic.TcCoe

variable (m : (ℓ : Loc nD τ sig) → Buf (Elt Ideal) ℓ) (c : Dev nD)

/-- Where each window's block lies at a grid point. -/
theorem idx : ∀ t : Fin cfg0.N,
    win0_0.index t = ![t.val / 44, t.val / 22 % 2, 0] ∧ win0_1.index t = ![128 + t.val / 44, 0, 0]
      ∧ win0_2.index t = ![0, 0] ∧ win0_3.index t = ![0, t.val % 22] ∧ win0_4.index t = ![0, t.val % 22]
      ∧ win0_5.index t = ![t.val % 22, 0] ∧ win0_6.index t = ![0, 0] :=
  (by decide +kernel : ∀ t : Fin grid0.N, _)

/-- The arguments' arrays. -/
abbrev X0 : Vec Ideal S4x2048x2048 .f32 := m ((c : Thread nD τ).loc main_arg0)
abbrev X1 : Vec Ideal S136x6x2048 .f32 := m ((c : Thread nD τ).loc main_arg1)
abbrev X2 : Vec Ideal S2048 .f32 := m ((c : Thread nD τ).loc main_arg2)
abbrev X3 : Vec Ideal S2048 .f32 := m ((c : Thread nD τ).loc main_arg3)
abbrev X4 : Vec Ideal S2048x5632 .f32 := m ((c : Thread nD τ).loc main_arg4)
abbrev X5 : Vec Ideal S2048x5632 .f32 := m ((c : Thread nD τ).loc main_arg5)
abbrev X6 : Vec Ideal S5632x2048 .f32 := m ((c : Thread nD τ).loc main_arg6)

section reads

variable (t : Fin cfg0.N)

theorem read0 (b : Fin 4) (R : Fin 2048) (r : Fin 1024) (hb : b.val = t.val / 44) (hR : R.val = t.val / 22 % 2 * 1024 + r.val)
    (l : Fin 2048) : iblk m c 0 t (ix3 0 r l) = X0 m c (ix3 b R l) := by
  blk_ext [iblk, V, idx t]

theorem read1 (b : Fin 4) (hb : b.val = t.val / 44) (j : Fin 6) (l : Fin 2048) :
    iblk m c 1 t (ix3 0 j l) = modRow (X1 m c) j b l := by
  blk_ext [iblk, V, idx t]

theorem read2 (l : Fin 2048) : iblk m c 2 t (ix2 0 l) = X2 m c (ix1 l) := by
  blk_point [iblk, V, idx t]

theorem read6 (l : Fin 2048) : iblk m c 6 t (ix2 0 l) = X3 m c (ix1 l) := by
  blk_point [iblk, V, idx t]

theorem read3 (k : Fin 2048) (e : Fin 256) (n : Fin 5632) (hn : n.val = t.val % 22 * 256 + e.val) :
    iblk m c 3 t (ix2 k e) = X4 m c (ix2 k n) := by
  blk_ext [iblk, V, idx t]

theorem read4 (k : Fin 2048) (e : Fin 256) (n : Fin 5632) (hn : n.val = t.val % 22 * 256 + e.val) :
    iblk m c 4 t (ix2 k e) = X5 m c (ix2 k n) := by
  blk_ext [iblk, V, idx t]

theorem read5 (d : Fin 2048) (e : Fin 256) (n : Fin 5632) (hn : n.val = t.val % 22 * 256 + e.val) :
    iblk m c 5 t (ix2 e d) = X6 m c (ix2 n d) := by
  blk_ext [iblk, V, idx t]

/-- The row a part of the block works on is the reference's hidden row of the token. -/
theorem blkHid_eq (b : Fin 4) (R : Fin 2048) (r : Fin 1024) (hb : b.val = t.val / 44)
    (hR : R.val = t.val / 22 % 2 * 1024 + r.val) :
    blkHid m c t r = hidRow (X0 m c) (X1 m c) (X2 m c) b R := by
  unfold blkHid hidRow
  rw [funext fun l => read0 m c t b R r hb hR l, funext fun l => read1 m c t b hb 3 l, funext fun l => read1 m c t b hb 4 l,
    funext fun l => read2 m c t l]

end reads

/-- The contribution of the `s`-th block of hidden units to the down projection of a row. -/
def piece (h : Row) (s : Fin 22) (d : Fin 2048) : EReal :=
  ∑ e : Fin 256, act h (fun k => X4 m c (ix2 k ⟨s.val * 256 + e.val, by omega⟩)) (fun k => X5 m c (ix2 k ⟨s.val * 256 + e.val, by omega⟩))
    * X6 m c (ix2 ⟨s.val * 256 + e.val, by omega⟩ d)

theorem blkPart_eq (t : Fin cfg0.N) (h : Row) (s : Fin 22) (hs : s.val = t.val % 22) (d : Fin 2048) :
    blkPart m c t h d = piece m c h s d := by
  unfold blkPart part piece
  refine Finset.sum_congr rfl fun e _ => ?_
  rw [funext fun k => read3 m c t k e ⟨s.val * 256 + e.val, by omega⟩ (by rw [← hs]),
    funext fun k => read4 m c t k e ⟨s.val * 256 + e.val, by omega⟩ (by rw [← hs]),
    read5 m c t d e ⟨s.val * 256 + e.val, by omega⟩ (by rw [← hs])]

/-- The pieces of all blocks make the down projection's row. -/
theorem sum_piece (b : Fin 4) (R : Fin 2048) (d : Fin 2048) :
    ∑ s : Fin 22, piece m c (hidRow (X0 m c) (X1 m c) (X2 m c) b R) s d
      = downRow (X0 m c) (X1 m c) (X2 m c) (X4 m c) (X5 m c) (X6 m c) b R d := by
  unfold piece downRow
  exact Fin.sum_mul_add_congr fun s e hl => rfl

/-- The points of a run before its last: the carried rows are the hidden rows, and the block holds the pieces so far. -/
theorem inv (q : ℕ) (b : Fin 4) (R : Fin 2048) (r : Fin 1024) (hb : b.val = q / 2) (hR : R.val = q % 2 * 1024 + r.val) :
    ∀ (j n : ℕ) (hn : n < cfg0.N) (hj : j ≤ 20), n = 22 * q + j →
      (∀ k, (outsAt0 m c n hn).2 (ix2 r k) = hidRow (X0 m c) (X1 m c) (X2 m c) b R k)
      ∧ ∀ d, (outsAt0 m c n hn).1 (ix3 0 r d)
          = ∑ s : Fin (j + 1), piece m c (hidRow (X0 m c) (X1 m c) (X2 m c) b R) ⟨s.val, by omega⟩ d := by
  intro j
  induction j with
  | zero =>
    intro n hn hj e
    have ha : n % 22 = 0 := by omega
    have hh := blkHid_eq m c ⟨n, hn⟩ b R r (by show b.val = n / 44; omega) (by show R.val = n / 22 % 2 * 1024 + r.val; omega)
    refine ⟨fun k => (first_scr m c ⟨n, hn⟩ ha r k).trans (congrFun hh k), fun d => ?_⟩
    rw [Fin.sum_univ_one]
    refine (first_out m c ⟨n, hn⟩ ha r d).trans ?_
    rw [hh]
    exact blkPart_eq m c ⟨n, hn⟩ _ ⟨0, by omega⟩ ha.symm d
  | succ j ih =>
    intro n hn hj e
    have hm : n % 22 = j + 1 := by omega
    obtain ⟨h2, h1⟩ := ih (n - 1) (by omega) (by omega) (by omega)
    refine ⟨fun k => (congrFun (step_scr m c ⟨n, hn⟩ (by show 1 ≤ n % 22 ∧ n % 22 ≤ 20; omega) _) _).trans (h2 k), fun d => ?_⟩
    refine (step_out m c ⟨n, hn⟩ (by show 1 ≤ n % 22 ∧ n % 22 ≤ 20; omega) r d (by show n - 1 < cfg0.N; omega)).trans ?_
    rw [Fin.sum_univ_castSucc]
    refine congrArg₂ (fun x y : EReal => x + y) (h1 d) ?_
    rw [show (fun l => (outsAt0 m c (n - 1) (by omega)).2 (ix2 r l)) = _ from funext h2]
    exact blkPart_eq m c ⟨n, hn⟩ _ ⟨j + 1, by omega⟩ hm.symm d

/-- A run's last point leaves the reference's result at each of its tokens. -/
theorem last (q : ℕ) (b : Fin 4) (R : Fin 2048) (r : Fin 1024) (hb : b.val = q / 2) (hR : R.val = q % 2 * 1024 + r.val)
    (n : ℕ) (hn : n < cfg0.N) (e : n = 22 * q + 21) (k : Fin 2048) :
    (outsAt0 m c n hn).1 (ix3 0 r k) = result (X0 m c) (X1 m c) (X2 m c) (X3 m c) (X4 m c) (X5 m c) (X6 m c) b R k := by
  obtain ⟨h2, h1⟩ := inv m c q b R r hb hR 20 (n - 1) (by omega) (by omega) (by omega)
  have hb' : b.val = n / 44 := by omega
  have hm : n % 22 = 21 := by omega
  refine (last_out m c ⟨n, hn⟩ hm r k (by show n - 1 < cfg0.N; omega)).trans ?_
  unfold result
  rw [funext fun l => read0 m c ⟨n, hn⟩ b R r hb' (by show R.val = n / 22 % 2 * 1024 + r.val; omega) l,
    funext fun l => read1 m c ⟨n, hn⟩ b hb' 5 l, funext fun l => read6 m c ⟨n, hn⟩ l]
  refine congrArg (fun f => fin _ _ f _ k) (funext fun d => ?_)
  rw [← sum_piece, Fin.sum_univ_castSucc]
  refine congrArg₂ (fun x y : EReal => x + y) (h1 d) ?_
  rw [show (fun l => (outsAt0 m c (n - 1) (by omega)).2 (ix2 r l)) = _ from funext h2]
  exact blkPart_eq m c ⟨n, hn⟩ _ ⟨21, by omega⟩ hm.symm d

/-- The kernel's result array is the reference's result over the argument arrays. -/
theorem final :
    Value.G7 m c = Cert.Reference2Ideal.Read.val_main_v48 (F := Ideal) (X0 m c) (X1 m c) (X2 m c) (X3 m c) (X4 m c) (X5 m c) (X6 m c) := by
  funext i
  obtain ⟨b, R, k, rfl⟩ : ∃ (b : Fin 4) (R k : Fin 2048), i = ix3 b R k := ⟨_, _, _, eq_ix3 i⟩
  have hp : Value.pt7Of (ix3 b R k) = 22 * (2 * b.val + R.val / 1024) + 21 := by
    unfold Value.pt7Of Value.run7Of
    show 22 * (2 * (b.val / 1 - 0) + 1 * (R.val / 1024 - 0) + 1 * (k.val / 2048 - 0)) + 21 = _
    omega
  have hN : Value.pt7Of (ix3 b R k) < cfg0.N := by
    rw [hp, show cfg0.N = 176 from N_0]; omega
  refine Eq.trans ?_ (result_apply _ _ _ _ _ _ _ b R k).symm
  unfold Value.G7
  rw [dif_pos hN, ← Value.outsAt0_sweep m c _ hN,
    show Value.loc7Of (ix3 b R k) = ix3 0 ⟨R.val % 1024, by omega⟩ k from funext fun
      | 0 => Fin.ext (Nat.mod_one _)
      | 1 => rfl
      | 2 => Fin.ext (Nat.mod_eq_of_lt k.isLt)]
  exact last m c (2 * b.val + R.val / 1024) b R ⟨R.val % 1024, by omega⟩ (by omega) (by show R.val = _ * 1024 + R.val % 1024; omega) _ hN hp k

end Cert.Proof.Ffn

end

end
-- ==== Proof.SFfnRef.lean ====
/- The reference's feed-forward block on the second group, read at an index. -/
module

public import proofs.«01_k».proof.Proof.FfnSpec
public import proofs.«01_k».proof.Proof.Gen.Reference3Ideal.Read

@[expose] public section

set_option maxRecDepth 16384

noncomputable section

namespace Cert.Proof.SFfn

open Idealize.ShloMosaic Cert.Proof.Ffn Cert.Reference3Ideal Cert.Reference3Ideal.Read

variable (x0 : Vec Ideal S128x8x2048 .f32) (x1 : Vec Ideal S136x6x2048 .f32) (x2 x3 : Vec Ideal S2048 .f32)
  (x4 x5 : Vec Ideal S2048x5632 .f32) (x6 : Vec Ideal S5632x2048 .f32)

/-- Row `j` of the modulation of sequence `b`. -/
abbrev modRow (j : Fin 6) (b : Fin 128) : Row := fun k => x1 (ix3 ⟨b.val, by omega⟩ j k)

/-- The hidden row of token `r` of sequence `b`. -/
abbrev hidRow (b : Fin 128) (r : Fin 8) : Row :=
  hid (fun k => x0 (ix3 b r k)) (modRow x1 3 b) (modRow x1 4 b) (fun k => x2 (ix1 k))

/-- The down projection's row of token `r` of sequence `b`. -/
def downRow (b : Fin 128) (r : Fin 8) : Row := fun d =>
  ∑ e : Fin 5632, act (hidRow x0 x1 x2 b r) (fun k => x4 (ix2 k e)) (fun k => x5 (ix2 k e)) * x6 (ix2 e d)

/-- The block's result at a token. -/
def result (b : Fin 128) (r : Fin 8) : Row :=
  fin (fun k => x0 (ix3 b r k)) (modRow x1 5 b) (downRow x0 x1 x2 x4 x5 x6 b r) (fun k => x3 (ix1 k))

theorem hidden_apply (b : Fin 128) (r : Fin 8) (k : Fin 2048) :
    val_main_v27 (F := Ideal) x0 x1 x2 (ix3 b r k) = hidRow x0 x1 x2 b r k := by
  pointwise [val_main_v27, val_main_v26, val_main_v25, val_main_v24, val_main_v23, val_main_v22, val_main_cst_2,
    val_main_v21, val_main_v20, val_main_v19, val_main_v18, val_main_v17, val_main_v16, val_main_v15, val_main_v14,
    val_main_cst_1, val_main_v13, val_main_v12, val_main_cst_0, val_main_v11, val_main_v10, val_main_cst, val_main_v9,
    val_main_v5, val_main_v4, val_main_v3, val_main_v2, val_main_v1, val_main_v0, hid, Ffn.norm]
  try rfl

theorem act_apply (b : Fin 128) (r : Fin 8) (e : Fin 5632) :
    val_main_v31 (F := Ideal) x0 x1 x2 x4 x5 (ix3 b r e)
      = act (hidRow x0 x1 x2 b r) (fun k => x4 (ix2 k e)) (fun k => x5 (ix2 k e)) := by
  simp only [act, ← hidden_apply]
  unfold val_main_v31 val_main_v30 val_main_v29 val_main_call0_v5 val_main_call0_v4 val_main_call0_cst_0 val_main_call0_v3
    val_main_call0_v2 val_main_call0_cst val_main_call0_v1 val_main_call0_v0 val_main_v28
  generalize val_main_v27 (F := Ideal) x0 x1 x2 = y
  pointwise
  try rfl

theorem down_apply (b : Fin 128) (r : Fin 8) (d : Fin 2048) :
    val_main_v32 (F := Ideal) x0 x1 x2 x4 x5 x6 (ix3 b r d) = downRow x0 x1 x2 x4 x5 x6 b r d := by
  simp only [downRow, ← act_apply]
  unfold val_main_v32
  generalize val_main_v31 (F := Ideal) x0 x1 x2 x4 x5 = y
  pointwise
  try rfl

theorem result_apply (b : Fin 128) (r : Fin 8) (k : Fin 2048) :
    val_main_v48 (F := Ideal) x0 x1 x2 x3 x4 x5 x6 (ix3 b r k) = result x0 x1 x2 x3 x4 x5 x6 b r k := by
  simp only [result, fin, Ffn.norm, ← down_apply]
  unfold val_main_v48 val_main_v47 val_main_v46 val_main_v45 val_main_v44 val_main_v43 val_main_v42 val_main_v41 val_main_v40
    val_main_v39 val_main_v38 val_main_cst_5 val_main_v37 val_main_v36 val_main_cst_4 val_main_v35 val_main_v34
    val_main_cst_3 val_main_v33
  generalize val_main_v32 (F := Ideal) x0 x1 x2 x4 x5 x6 = y
  pointwise [val_main_v8, val_main_v7, val_main_v6]
  try rfl

end Cert.Proof.SFfn

end

end
-- ==== Proof.SFfnPay.lean ====
/- What each stored value of the second group's feed-forward body is at an index, row by row. -/
module

public import proofs.«01_k».proof.Proof.FfnSpec
public import proofs.«01_k».proof.Proof.Gen.Kernel3Ideal.Skeleton

@[expose] public section

set_option maxRecDepth 16384

noncomputable section

namespace Cert.Proof.SFfn

open Idealize.ShloMosaic Cert.Proof.Ffn Cert.Kernel3Ideal Cert.Kernel3Ideal.Gen

/-- A hidden block's contribution to the down projection's row: `256` hidden units from the blocks of the three weights. -/
def part (h : Row) (wg wu : Vec Ideal S2048x256 .f32) (wd : Vec Ideal S256x2048 .f32) (d : Fin 2048) : EReal :=
  ∑ e : Fin 256, act h (fun k => wg (ix2 k e)) (fun k => wu (ix2 k e)) * wd (ix2 e d)

/-- The flat row of a part of `32` sequences of `8` tokens. -/
abbrev flat (a : Fin 32) (b : Fin 8) : Fin 256 := ⟨a.val * 8 + b.val, by omega⟩

/-- The flat row of the block of `128` sequences. -/
abbrev flat1 (a : Fin 128) (b : Fin 8) : Fin 1024 := ⟨a.val * 8 + b.val, by omega⟩

section hidden

variable (v13 : Vec Ideal S32x8x2048 .f32) (v14 : Vec Ideal S1x2048 .f32) (v16 v17 : Vec Ideal S32x1x2048 .f32)
  (wg wu : Vec Ideal S2048x256 .f32) (wd : Vec Ideal S256x2048 .f32) (a : Fin 32) (b : Fin 8) (r : Fin 256) (k : Fin 2048)

/-- The modulated row a part of the body computes from its loads. -/
abbrev hrow : Row :=
  hid (fun l => v13 (ix3 ⟨r.val / 8, by omega⟩ ⟨r.val % 8, by omega⟩ l)) (fun l => v17 (ix3 ⟨r.val / 8, by omega⟩ 0 l))
    (fun l => v16 (ix3 ⟨r.val / 8, by omega⟩ 0 l)) (fun l => v14 (ix2 0 l))

theorem pay3_apply : k0_pay3 v13 v14 v16 v17 (ix2 r k) = hrow v13 v14 v16 v17 r k := by
  pointwise [k0_pay3, hid, Ffn.norm]

theorem pay4_apply : k0_pay4 v13 v14 v16 v17 (ix2 r k) = hrow v13 v14 v16 v17 r k := by
  pointwise [k0_pay4, k0_pay3, hid, Ffn.norm]

theorem pay8_apply : k0_pay8 v13 v14 v16 v17 (ix2 r k) = hrow v13 v14 v16 v17 r k := by
  pointwise [k0_pay8, hid, Ffn.norm]

theorem pay9_apply : k0_pay9 (k0_pay8 v13 v14 v16 v17) (ix2 r k) = hrow v13 v14 v16 v17 r k := by
  pointwise [k0_pay9, k0_pay8, hid, Ffn.norm]

theorem pay13_apply :
    k0_pay13 v16 v17 (k0_pay11 v13) (k0_pay12 v14) (ix2 r k) = hrow v13 v14 v16 v17 r k := by
  pointwise [k0_pay13, k0_pay11, k0_pay12, hid, Ffn.norm]

theorem pay14_apply :
    k0_pay14 v16 v17 (k0_pay11 v13) (k0_pay12 v14) (ix2 r k) = hrow v13 v14 v16 v17 r k := by
  pointwise [k0_pay14, k0_pay13, k0_pay11, k0_pay12, hid, Ffn.norm]

theorem pay17_apply : k0_pay17 v13 (k0_pay16 v14) v16 v17 (ix2 r k) = hrow v13 v14 v16 v17 r k := by
  pointwise [k0_pay17, k0_pay16, hid, Ffn.norm]

theorem pay18_apply : k0_pay18 v13 (k0_pay16 v14) v16 v17 (ix2 r k) = hrow v13 v14 v16 v17 r k := by
  pointwise [k0_pay18, k0_pay17, k0_pay16, hid, Ffn.norm]

theorem pay7_apply :
    k0_pay7 (k0_pay3 v13 v14 v16 v17) (k0_pay5 v13 v14 v16 v17 wg) (k0_pay6 wu) (constant S256x256 .f32 0x00000000#32) wd (ix3 a b k)
      = part (hrow v13 v14 v16 v17 (flat a b)) wg wu wd k := by
  simp only [part, act, ← pay3_apply v13 v14 v16 v17 (flat a b)]
  pointwise [k0_pay7, k0_pay5, k0_pay6]
  try rfl

theorem pay10_apply :
    k0_pay10 (k0_pay8 v13 v14 v16 v17) wg wu wd (ix3 a b k) = part (hrow v13 v14 v16 v17 (flat a b)) wg wu wd k := by
  simp only [part, act, ← pay8_apply v13 v14 v16 v17 (flat a b)]
  pointwise [k0_pay10]
  try rfl

theorem pay15_apply :
    k0_pay15 v16 v17 (k0_pay11 v13) (k0_pay12 v14) wg wu wd (ix3 a b k) = part (hrow v13 v14 v16 v17 (flat a b)) wg wu wd k := by
  simp only [part, act, ← pay13_apply v13 v14 v16 v17 (flat a b)]
  pointwise [k0_pay15]
  try rfl

theorem pay19_apply :
    k0_pay19 v13 (k0_pay16 v14) v16 v17 wg wu wd (ix3 a b k) = part (hrow v13 v14 v16 v17 (flat a b)) wg wu wd k := by
  simp only [part, act, ← pay17_apply v13 v14 v16 v17 (flat a b)]
  pointwise [k0_pay19]
  try rfl

end hidden

/-- A middle point's stored block: what was there plus the point's contribution. -/
theorem pay1_apply (acc : Vec Ideal S128x8x2048 .f32) (h : Vec Ideal S1024x2048 .bf16) (wg wu : Vec Ideal S2048x256 .f32)
    (wd : Vec Ideal S256x2048 .f32) (a : Fin 128) (b : Fin 8) (k : Fin 2048) :
    k0_pay1 acc h wg wu wd (ix3 a b k) = acc (ix3 a b k) + part (fun l => h (ix2 (flat1 a b) l)) wg wu wd k := by
  simp only [part, act]
  pointwise [k0_pay1]
  try rfl

section last

variable (x acc : Vec Ideal S32x8x2048 .f32) (h : Vec Ideal S256x2048 .bf16) (wg wu : Vec Ideal S2048x256 .f32)
  (wd : Vec Ideal S256x2048 .f32) (g : Vec Ideal S1x2048 .f32) (gt : Vec Ideal S32x1x2048 .f32) (a : Fin 32) (b : Fin 8) (k : Fin 2048)

/-- The down projection's finished row at a last point. -/
abbrev frow : Row := fun l => acc (ix3 a b l) + part (fun q => h (ix2 (flat a b) q)) wg wu wd l

theorem pay21_apply :
    k0_pay21 x (k0_pay20 acc h wg wu wd g) gt (ix3 a b k)
      = fin (fun l => x (ix3 a b l)) (fun l => gt (ix3 a 0 l)) (frow acc h wg wu wd a b) (fun l => g (ix2 0 l)) k := by
  simp only [fin, Ffn.norm, frow, part, act]
  pointwise [k0_pay21, k0_pay20]
  try rfl

theorem pay23_apply :
    k0_pay23 x (k0_pay22 acc h wg wu wd) g gt (ix3 a b k)
      = fin (fun l => x (ix3 a b l)) (fun l => gt (ix3 a 0 l)) (frow acc h wg wu wd a b) (fun l => g (ix2 0 l)) k := by
  simp only [fin, Ffn.norm, frow, part, act]
  pointwise [k0_pay23, k0_pay22]
  try rfl

theorem pay26_apply :
    k0_pay26 x (k0_pay24 acc h wg wu wd) (k0_pay25 acc h wg wu wd) (Scalar.ofBits .f32 0x358637BD#32) g gt (ix3 a b k)
      = fin (fun l => x (ix3 a b l)) (fun l => gt (ix3 a 0 l)) (frow acc h wg wu wd a b) (fun l => g (ix2 0 l)) k := by
  simp only [fin, Ffn.norm, frow, part, act]
  pointwise [k0_pay26, k0_pay25, k0_pay24]
  try rfl

theorem pay2_apply :
    k0_pay2 x (k0_pay27 acc h wg wu wd) g gt (ix3 a b k)
      = fin (fun l => x (ix3 a b l)) (fun l => gt (ix3 a 0 l)) (frow acc h wg wu wd a b) (fun l => g (ix2 0 l)) k := by
  simp only [fin, Ffn.norm, frow, part, act]
  pointwise [k0_pay2, k0_pay27]
  try rfl

end last

end Cert.Proof.SFfn

end

end
-- ==== Proof.SFfnStep.lean ====
/- What each kind of grid point of the second group's feed-forward kernel leaves, at an index, from what the point before left. -/
module

public import proofs.«01_k».proof.Proof.SFfnPay
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Proof.SFfn

open Idealize.ShloMosaic Cert.Proof.Ffn Cert.Kernel3Ideal Cert.Kernel3Ideal.Gen Idealize.ShloMosaic.TcCoe

variable (m : (ℓ : Loc nD τ sig) → Buf (Elt Ideal) ℓ)

/-- The modulated row a block's token is at a grid point, from the point's input blocks. -/
abbrev blkHid (c : Dev nD) (t : Fin cfg0.N) (a : Fin 128) (b : Fin 8) : Row :=
  hid (fun l => iblk m c 0 t (ix3 a b l)) (fun l => X0_1 m c t (ix3 a 3 l)) (fun l => X0_1 m c t (ix3 a 4 l))
    (fun l => iblk m c 2 t (ix2 0 l))

/-- The point's contribution to the down projection of a row `h`. -/
abbrev blkPart (c : Dev nD) (t : Fin cfg0.N) (h : Row) : Row := part h (iblk m c 3 t) (iblk m c 4 t) (iblk m c 5 t)

/-- A part's token of a block is the block's, at the part's offset. -/
theorem rowRead (X : S128x8x2048.Idx → EReal) (p : ℕ) (inb) (x : Fin 32) (y : Fin 8) (a : Fin 128) (b : Fin 8)
    (ha : (a : ℕ) = p + x) (hb : (b : ℕ) = y) (l : Fin 2048) :
    X ((Rect.unit (s := S128x8x2048) ![p, 0, 0] ![32, 8, 2048] inb).idx (ix3 x y l)) = X (ix3 a b l) :=
  View.ld_unit_apply_of (e := .f32) (Val := Elt Ideal) X _ _ inb _ _ fun
    | 0 => ha
    | 1 => hb.trans (Nat.zero_add _).symm
    | 2 => (Nat.zero_add _).symm

/-- A row of a sequence's modulation is the row read at its offset. -/
theorem modRead (X : S128x6x2048.Idx → EReal) (p : ℕ) (o : ℕ) (j : Fin 6) (h : (j : ℕ) = o) (inb) (x : Fin 32) (a : Fin 128)
    (ha : (a : ℕ) = p + x) (l : Fin 2048) :
    X ((Rect.unit (s := S128x6x2048) ![p, o, 0] ![32, 1, 2048] inb).idx (ix3 x 0 l)) = X (ix3 a j l) :=
  View.ld_unit_apply_of (e := .f32) (Val := Elt Ideal) X _ _ inb _ _ fun
    | 0 => ha
    | 1 => h
    | 2 => (Nat.zero_add _).symm

/-- A part's row of the carried rows, at the part's offset. -/
theorem scrRead (X : S1024x2048.Idx → EReal) (o : ℕ) (inb) (x : Fin 256) (r : Fin 1024) (h : (r : ℕ) = o + x) (l : Fin 2048) :
    X ((Rect.unit (s := S1024x2048) ![o, 0] ![256, 2048] inb).idx (ix2 x l)) = X (ix2 r l) :=
  View.ld_unit_apply_of (e := .bf16) (Val := Elt Ideal) X _ _ inb _ _ fun
    | 0 => h
    | 1 => (Nat.zero_add _).symm

/-- The modulated row a part of a block computes is the block's token's, at the part's offset. -/
theorem hidRead (X : S128x8x2048.Idx → EReal) (M : S128x6x2048.Idx → EReal) (G : S1x2048.Idx → EReal) (p : ℕ) (inb inb3 inb4)
    (r : Fin 256) (a : Fin 128) (b : Fin 8) (ha : (a : ℕ) = p + r / 8) (hb : (b : ℕ) = r % 8) :
    hrow (fun i => X ((Rect.unit (s := S128x8x2048) ![p, 0, 0] ![32, 8, 2048] inb).idx i)) G
        (fun i => M ((Rect.unit (s := S128x6x2048) ![p, 4, 0] ![32, 1, 2048] inb4).idx i))
        (fun i => M ((Rect.unit (s := S128x6x2048) ![p, 3, 0] ![32, 1, 2048] inb3).idx i)) r
      = hid (fun l => X (ix3 a b l)) (fun l => M (ix3 a 3 l)) (fun l => M (ix3 a 4 l)) (fun l => G (ix2 0 l)) := by
  unfold hrow
  rw [funext fun l => rowRead X p inb _ _ a b ha hb l, funext fun l => modRead M p 3 3 rfl inb3 _ a ha l,
    funext fun l => modRead M p 4 4 rfl inb4 _ a ha l]

/-- What a part's last point stores is the block's token's row, at the part's offset. -/
theorem finRead (X A : S128x8x2048.Idx → EReal) (M : S128x6x2048.Idx → EReal) (H : S1024x2048.Idx → EReal) (G : S1x2048.Idx → EReal)
    (wg wu : Vec Ideal S2048x256 .f32) (wd : Vec Ideal S256x2048 .f32) (p o : ℕ) (ho : o = p * 8) (inb inbh inb5)
    (x : Fin 32) (y : Fin 8) (a : Fin 128) (b : Fin 8) (ha : (a : ℕ) = p + x) (hb : (b : ℕ) = y) :
    fin (fun l => X ((Rect.unit (s := S128x8x2048) ![p, 0, 0] ![32, 8, 2048] inb).idx (ix3 x y l)))
        (fun l => M ((Rect.unit (s := S128x6x2048) ![p, 5, 0] ![32, 1, 2048] inb5).idx (ix3 x 0 l)))
        (frow (fun i => A ((Rect.unit (s := S128x8x2048) ![p, 0, 0] ![32, 8, 2048] inb).idx i))
          (fun i => H ((Rect.unit (s := S1024x2048) ![o, 0] ![256, 2048] inbh).idx i)) wg wu wd x y) (fun l => G (ix2 0 l))
      = fin (fun l => X (ix3 a b l)) (fun l => M (ix3 a 5 l))
          (fun l => A (ix3 a b l) + part (fun q => H (ix2 (flat1 a b) q)) wg wu wd l) (fun l => G (ix2 0 l)) := by
  unfold frow
  rw [funext fun l => rowRead X p inb x y a b ha hb l, funext fun l => modRead M p 5 5 rfl inb5 x a ha l,
    funext fun q => scrRead H o inbh (flat x y) (flat1 a b) (by show a.val * 8 + b.val = o + (x.val * 8 + y.val); omega) q]
  simp only [fun l => rowRead A p inb x y a b ha hb l]

/-- A middle point adds its contribution to the block. -/
theorem step_out (c : Dev nD) (t : Fin cfg0.N) (hb : 1 ≤ t.val % 22 ∧ t.val % 22 ≤ 20) (a : Fin 128) (b : Fin 8) (k : Fin 2048) (hn) :
    (outsAt0 m c t.val t.isLt).1 (ix3 a b k) = (show EReal from (outsAt0 m c (t.val - 1) hn).1 (ix3 a b k))
      + blkPart m c t (fun l => (outsAt0 m c (t.val - 1) hn).2 (ix2 (flat1 a b) l)) k := by
  rw [outsAt0_B m c t (by omega) hb (by omega)]
  dsimp only
  frame_out
  rw [read_unread_whole]
  exact pay1_apply _ _ _ _ _ a b k

/-- A middle point keeps the carried rows. -/
theorem step_scr (c : Dev nD) (t : Fin cfg0.N) (hb : 1 ≤ t.val % 22 ∧ t.val % 22 ≤ 20) (hn) :
    (outsAt0 m c t.val t.isLt).2 = (outsAt0 m c (t.val - 1) hn).2 := by
  rw [outsAt0_B m c t (by omega) hb (by omega)]
  dsimp only [sout0_B_0]

/-- A run's first point leaves the modulated rows in the carried buffer. -/
theorem first_scr (c : Dev nD) (t : Fin cfg0.N) (ha : t.val % 22 = 0) (a : Fin 128) (b : Fin 8) (k : Fin 2048) :
    (outsAt0 m c t.val t.isLt).2 (ix2 (flat1 a b) k) = blkHid m c t a b k := by
  rw [outsAt0_A m c t ha (by omega) (by omega)]
  dsimp only
  frame_out
  canon_tiles x h
  all_goals
    obtain ⟨y, z, rfl⟩ : ∃ y z, x = ix2 y z := ⟨_, _, eq_ix2 x⟩
    obtain rfl : k = z := Fin.ext h1
  · exact (pay18_apply ..).trans (congrFun (hidRead _ _ _ 96 _ _ _ y a b (by have : a.val * 8 + b.val = 768 + y.val := h0; omega) (by have : a.val * 8 + b.val = 768 + y.val := h0; omega)) k)
  · exact (pay14_apply ..).trans (congrFun (hidRead _ _ _ 64 _ _ _ y a b (by have : a.val * 8 + b.val = 512 + y.val := h0; omega) (by have : a.val * 8 + b.val = 512 + y.val := h0; omega)) k)
  · exact (pay9_apply ..).trans (congrFun (hidRead _ _ _ 32 _ _ _ y a b (by have : a.val * 8 + b.val = 256 + y.val := h0; omega) (by have : a.val * 8 + b.val = 256 + y.val := h0; omega)) k)
  · exact (pay4_apply ..).trans (congrFun (hidRead _ _ _ 0 _ _ _ y a b (by have : a.val * 8 + b.val = y.val := h0; omega) (by have : a.val * 8 + b.val = y.val := h0; omega)) k)

/-- A run's first point leaves its contribution in the block. -/
theorem first_out (c : Dev nD) (t : Fin cfg0.N) (ha : t.val % 22 = 0) (a : Fin 128) (b : Fin 8) (k : Fin 2048) :
    (outsAt0 m c t.val t.isLt).1 (ix3 a b k) = blkPart m c t (blkHid m c t a b) k := by
  rw [outsAt0_A m c t ha (by omega) (by omega)]
  dsimp only
  frame_out
  canon_tiles x h
  all_goals
    obtain ⟨y, z, w, rfl⟩ : ∃ y z w, x = ix3 y z w := ⟨_, _, _, eq_ix3 x⟩
    obtain rfl : k = w := Fin.ext h2
  · exact (pay19_apply ..).trans (congrArg (fun h => blkPart m c t h k) (hidRead _ _ _ 96 _ _ _ (flat y z) a b
      (by have : a.val = 96 + y.val := h0; show a.val = 96 + (y.val * 8 + z.val) / 8; omega)
      (by have : b.val = z.val := h1; show b.val = (y.val * 8 + z.val) % 8; omega)))
  · exact (pay15_apply ..).trans (congrArg (fun h => blkPart m c t h k) (hidRead _ _ _ 64 _ _ _ (flat y z) a b
      (by have : a.val = 64 + y.val := h0; show a.val = 64 + (y.val * 8 + z.val) / 8; omega)
      (by have : b.val = z.val := h1; show b.val = (y.val * 8 + z.val) % 8; omega)))
  · exact (pay10_apply ..).trans (congrArg (fun h => blkPart m c t h k) (hidRead _ _ _ 32 _ _ _ (flat y z) a b
      (by have : a.val = 32 + y.val := h0; show a.val = 32 + (y.val * 8 + z.val) / 8; omega)
      (by have : b.val = z.val := h1; show b.val = (y.val * 8 + z.val) % 8; omega)))
  · exact (pay7_apply ..).trans
      (congrArg (fun h => blkPart m c t h k) (hidRead _ _ _ 0 _ _ _ (flat y z) a b
      (by have : a.val = y.val := h0; show a.val = 0 + (y.val * 8 + z.val) / 8; omega)
      (by have : b.val = z.val := h1; show b.val = (y.val * 8 + z.val) % 8; omega)))

/-- A run's last point finishes the block: the sum normalised, gated and added to the residual stream. -/
theorem last_out (c : Dev nD) (t : Fin cfg0.N) (hc : t.val % 22 = 21) (a : Fin 128) (b : Fin 8) (k : Fin 2048) (hn) :
    (outsAt0 m c t.val t.isLt).1 (ix3 a b k)
      = fin (fun l => iblk m c 0 t (ix3 a b l)) (fun l => X0_1 m c t (ix3 a 5 l))
          (fun l => (show EReal from (outsAt0 m c (t.val - 1) hn).1 (ix3 a b l))
            + blkPart m c t (fun q => (outsAt0 m c (t.val - 1) hn).2 (ix2 (flat1 a b) q)) l)
          (fun l => iblk m c 6 t (ix2 0 l)) k := by
  rw [outsAt0_C m c t (by omega) (by omega) hc]
  dsimp only
  frame_out
  simp only [read_unread_whole]
  canon_tiles x h
  all_goals
    obtain ⟨y, z, w, rfl⟩ : ∃ y z w, x = ix3 y z w := ⟨_, _, _, eq_ix3 x⟩
    obtain rfl : k = w := Fin.ext h2
  · exact (pay2_apply ..).trans (congrFun (finRead _ _ _ _ _ _ _ _ 96 768 rfl _ _ _ y z a b h0 h1) k)
  · exact (pay26_apply ..).trans (congrFun (finRead _ _ _ _ _ _ _ _ 64 512 rfl _ _ _ y z a b h0 h1) k)
  · exact (pay23_apply ..).trans (congrFun (finRead _ _ _ _ _ _ _ _ 32 256 rfl _ _ _ y z a b h0 h1) k)
  · exact (pay21_apply ..).trans (congrFun (finRead _ _ _ _ _ _ _ _ 0 0 rfl _ _ _ y z a b (h0.trans (Nat.zero_add _).symm) h1) k)

end Cert.Proof.SFfn

end

end
-- ==== Proof.SFfnValue.lean ====
/- The second group's feed-forward kernel's result array: at every token, the block of the reference. -/
module

public import proofs.«01_k».proof.Proof.SFfnRef
public import proofs.«01_k».proof.Proof.SFfnStep

@[expose] public section

set_option maxRecDepth 16384

noncomputable section

namespace Cert.Proof.SFfn

open Idealize.ShloMosaic Cert.Proof.Ffn Cert.Kernel3Ideal Cert.Kernel3Ideal.Gen Idealize.ShloMosaic.TcCoe

variable (m : (ℓ : Loc nD τ sig) → Buf (Elt Ideal) ℓ) (c : Dev nD)

/-- Where each window's block lies at a grid point. -/
theorem idx : ∀ t : Fin cfg0.N,
    win0_0.index t = ![0, 0, 0] ∧ win0_1.index t = ![0, 0, 0]
      ∧ win0_2.index t = ![0, 0] ∧ win0_3.index t = ![0, t.val % 22] ∧ win0_4.index t = ![0, t.val % 22]
      ∧ win0_5.index t = ![t.val % 22, 0] ∧ win0_6.index t = ![0, 0] :=
  (by decide +kernel : ∀ t : Fin grid0.N, _)

/-- The arguments' arrays. -/
abbrev X0 : Vec Ideal S128x8x2048 .f32 := m ((c : Thread nD τ).loc main_arg0)
abbrev X1 : Vec Ideal S136x6x2048 .f32 := m ((c : Thread nD τ).loc main_arg1)
abbrev X2 : Vec Ideal S2048 .f32 := m ((c : Thread nD τ).loc main_arg2)
abbrev X3 : Vec Ideal S2048 .f32 := m ((c : Thread nD τ).loc main_arg3)
abbrev X4 : Vec Ideal S2048x5632 .f32 := m ((c : Thread nD τ).loc main_arg4)
abbrev X5 : Vec Ideal S2048x5632 .f32 := m ((c : Thread nD τ).loc main_arg5)
abbrev X6 : Vec Ideal S5632x2048 .f32 := m ((c : Thread nD τ).loc main_arg6)

section reads

variable (t : Fin cfg0.N)

theorem read0 (a : Fin 128) (b : Fin 8) (l : Fin 2048) : iblk m c 0 t (ix3 a b l) = X0 m c (ix3 a b l) := by
  blk_ext [iblk, V, idx t]

theorem read1 (a : Fin 128) (j : Fin 6) (l : Fin 2048) : X0_1 m c t (ix3 a j l) = modRow (X1 m c) j a l := by
  unfold X0_1 Pipeline.Window.fill
  rw [dif_pos (moved0_1 t _)]
  blk_ext [iblk, V, idx t]

theorem read2 (l : Fin 2048) : iblk m c 2 t (ix2 0 l) = X2 m c (ix1 l) := by
  blk_point [iblk, V, idx t]

theorem read6 (l : Fin 2048) : iblk m c 6 t (ix2 0 l) = X3 m c (ix1 l) := by
  blk_point [iblk, V, idx t]

theorem read3 (k : Fin 2048) (e : Fin 256) (n : Fin 5632) (hn : n.val = t.val % 22 * 256 + e.val) :
    iblk m c 3 t (ix2 k e) = X4 m c (ix2 k n) := by
  blk_ext [iblk, V, idx t]

theorem read4 (k : Fin 2048) (e : Fin 256) (n : Fin 5632) (hn : n.val = t.val % 22 * 256 + e.val) :
    iblk m c 4 t (ix2 k e) = X5 m c (ix2 k n) := by
  blk_ext [iblk, V, idx t]

theorem read5 (d : Fin 2048) (e : Fin 256) (n : Fin 5632) (hn : n.val = t.val % 22 * 256 + e.val) :
    iblk m c 5 t (ix2 e d) = X6 m c (ix2 n d) := by
  blk_ext [iblk, V, idx t]

/-- The row the block works on is the reference's hidden row of the token. -/
theorem blkHid_eq (a : Fin 128) (b : Fin 8) : blkHid m c t a b = hidRow (X0 m c) (X1 m c) (X2 m c) a b := by
  unfold blkHid hidRow
  rw [funext fun l => read0 m c t a b l, funext fun l => read1 m c t a 3 l, funext fun l => read1 m c t a 4 l,
    funext fun l => read2 m c t l]

end reads

/-- The contribution of the `s`-th block of hidden units to the down projection of a row. -/
def piece (h : Row) (s : Fin 22) (d : Fin 2048) : EReal :=
  ∑ e : Fin 256, act h (fun k => X4 m c (ix2 k ⟨s.val * 256 + e.val, by omega⟩)) (fun k => X5 m c (ix2 k ⟨s.val * 256 + e.val, by omega⟩))
    * X6 m c (ix2 ⟨s.val * 256 + e.val, by omega⟩ d)

theorem blkPart_eq (t : Fin cfg0.N) (h : Row) (s : Fin 22) (hs : s.val = t.val % 22) (d : Fin 2048) :
    blkPart m c t h d = piece m c h s d := by
  unfold blkPart part piece
  refine Finset.sum_congr rfl fun e _ => ?_
  rw [funext fun k => read3 m c t k e ⟨s.val * 256 + e.val, by omega⟩ (by rw [← hs]),
    funext fun k => read4 m c t k e ⟨s.val * 256 + e.val, by omega⟩ (by rw [← hs]),
    read5 m c t d e ⟨s.val * 256 + e.val, by omega⟩ (by rw [← hs])]

/-- The pieces of all blocks make the down projection's row. -/
theorem sum_piece (a : Fin 128) (b : Fin 8) (d : Fin 2048) :
    ∑ s : Fin 22, piece m c (hidRow (X0 m c) (X1 m c) (X2 m c) a b) s d
      = downRow (X0 m c) (X1 m c) (X2 m c) (X4 m c) (X5 m c) (X6 m c) a b d := by
  unfold piece downRow
  exact Fin.sum_mul_add_congr fun s e hl => rfl

/-- The points before the last: the carried rows are the hidden rows, and the block holds the pieces so far. -/
theorem inv (a : Fin 128) (b : Fin 8) :
    ∀ (j n : ℕ) (hn : n < cfg0.N) (hj : j ≤ 20), n = j →
      (∀ k, (outsAt0 m c n hn).2 (ix2 (flat1 a b) k) = hidRow (X0 m c) (X1 m c) (X2 m c) a b k)
      ∧ ∀ d, (outsAt0 m c n hn).1 (ix3 a b d)
          = ∑ s : Fin (j + 1), piece m c (hidRow (X0 m c) (X1 m c) (X2 m c) a b) ⟨s.val, by omega⟩ d := by
  intro j
  induction j with
  | zero =>
    intro n hn hj e
    have ha : n % 22 = 0 := by omega
    have hh := blkHid_eq m c ⟨n, hn⟩ a b
    refine ⟨fun k => (first_scr m c ⟨n, hn⟩ ha a b k).trans (congrFun hh k), fun d => ?_⟩
    rw [Fin.sum_univ_one]
    refine (first_out m c ⟨n, hn⟩ ha a b d).trans ?_
    rw [hh]
    exact blkPart_eq m c ⟨n, hn⟩ _ ⟨0, by omega⟩ ha.symm d
  | succ j ih =>
    intro n hn hj e
    have hm : n % 22 = j + 1 := by omega
    obtain ⟨h2, h1⟩ := ih (n - 1) (by omega) (by omega) (by omega)
    refine ⟨fun k => (congrFun (step_scr m c ⟨n, hn⟩ (by show 1 ≤ n % 22 ∧ n % 22 ≤ 20; omega) _) _).trans (h2 k), fun d => ?_⟩
    refine (step_out m c ⟨n, hn⟩ (by show 1 ≤ n % 22 ∧ n % 22 ≤ 20; omega) a b d (by show n - 1 < cfg0.N; omega)).trans ?_
    rw [Fin.sum_univ_castSucc]
    refine congrArg₂ (fun x y : EReal => x + y) (h1 d) ?_
    rw [show (fun l => (outsAt0 m c (n - 1) (by omega)).2 (ix2 (flat1 a b) l)) = _ from funext h2]
    exact blkPart_eq m c ⟨n, hn⟩ _ ⟨j + 1, by omega⟩ hm.symm d

/-- The last point leaves the reference's result at each of its tokens. -/
theorem last (a : Fin 128) (b : Fin 8)
    (n : ℕ) (hn : n < cfg0.N) (e : n = 21) (k : Fin 2048) :
    (outsAt0 m c n hn).1 (ix3 a b k) = result (X0 m c) (X1 m c) (X2 m c) (X3 m c) (X4 m c) (X5 m c) (X6 m c) a b k := by
  obtain ⟨h2, h1⟩ := inv m c a b 20 (n - 1) (by omega) (by omega) (by omega)
  have hm : n % 22 = 21 := by omega
  refine (last_out m c ⟨n, hn⟩ hm a b k (by show n - 1 < cfg0.N; omega)).trans ?_
  unfold result
  rw [funext fun l => read0 m c ⟨n, hn⟩ a b l,
    funext fun l => read1 m c ⟨n, hn⟩ a 5 l, funext fun l => read6 m c ⟨n, hn⟩ l]
  refine congrArg (fun f => fin _ _ f _ k) (funext fun d => ?_)
  rw [← sum_piece, Fin.sum_univ_castSucc]
  refine congrArg₂ (fun x y : EReal => x + y) (h1 d) ?_
  rw [show (fun l => (outsAt0 m c (n - 1) (by omega)).2 (ix2 (flat1 a b) l)) = _ from funext h2]
  exact blkPart_eq m c ⟨n, hn⟩ _ ⟨21, by omega⟩ hm.symm d

/-- The kernel's result array is the reference's result over the argument arrays. -/
theorem final :
    Value.G7 m c = Cert.Reference3Ideal.Read.val_main_v48 (F := Ideal) (X0 m c) (X1 m c) (X2 m c) (X3 m c) (X4 m c) (X5 m c) (X6 m c) := by
  funext i
  obtain ⟨a, b, k, rfl⟩ : ∃ (a : Fin 128) (b : Fin 8) (k : Fin 2048), i = ix3 a b k := ⟨_, _, _, eq_ix3 i⟩
  have hp : Value.pt7Of (ix3 a b k) = 21 := by
    unfold Value.pt7Of Value.run7Of
    show 22 * (1 * (a.val / 128 - 0) + 1 * (b.val / 8 - 0) + 1 * (k.val / 2048 - 0)) + 21 = _
    omega
  have hN : Value.pt7Of (ix3 a b k) < cfg0.N := by
    rw [hp, show cfg0.N = 22 from N_0]; omega
  refine Eq.trans ?_ (result_apply _ _ _ _ _ _ _ a b k).symm
  unfold Value.G7
  rw [dif_pos hN, ← Value.outsAt0_sweep m c _ hN,
    show Value.loc7Of (ix3 a b k) = ix3 a b k from funext fun
      | 0 => Fin.ext (Nat.mod_eq_of_lt a.isLt)
      | 1 => Fin.ext (Nat.mod_eq_of_lt b.isLt)
      | 2 => Fin.ext (Nat.mod_eq_of_lt k.isLt)]
  exact last m c a b _ hN hp k

end Cert.Proof.SFfn

end

end
-- ==== Proof.MixRef.lean ====
/- The reference's output projection of the mixer, read at an index. -/
module

public import proofs.«01_k».proof.Proof.FfnSpec
public import proofs.«01_k».proof.Proof.Gen.Reference4Ideal.Read

@[expose] public section

set_option maxRecDepth 16384

noncomputable section

namespace Cert.Proof.Mix

open Idealize.ShloMosaic Cert.Proof.Ffn Cert.Reference4Ideal Cert.Reference4Ideal.Read

variable (x0 : Vec Ideal S8192x1024 .bf16) (x1 : Vec Ideal S8192x1024 .f32) (x2 : Vec Ideal S2048x2048 .f32)
  (x3 : Vec Ideal S4x2048x2048 .f32) (x4 : Vec Ideal S136x6x2048 .f32) (x5 : Vec Ideal S2048 .f32)

/-- The flat row of token `r` of sequence `b`. -/
abbrev tok (b : Fin 4) (r : Fin 2048) : Fin 8192 := ⟨b.val * 2048 + r.val, by omega⟩

/-- The mixed row of a token: the attention heads' half and the state space's half through the output projection. -/
def mixRow (b : Fin 4) (r : Fin 2048) : Row := fun d =>
  (∑ e : Fin 1024, x0 (ix2 (tok b r) e) * x2 (ix2 ⟨e.val, by omega⟩ d))
    + ∑ e : Fin 1024, x1 (ix2 (tok b r) e) * x2 (ix2 ⟨1024 + e.val, by omega⟩ d)

/-- The residual stream after the mixer, at a token. -/
def result (b : Fin 4) (r : Fin 2048) : Row :=
  fin (fun k => x3 (ix3 b r k)) (fun k => x4 (ix3 ⟨128 + b.val, by omega⟩ 2 k)) (mixRow x0 x1 x2 b r) (fun k => x5 (ix1 k))

theorem cat_lo (b : Fin 4) (r : Fin 2048) (e : Fin 1024) :
    val_main_v6 (F := Ideal) x0 x1 (ix3 b r ⟨e.val, by omega⟩) = x0 (ix2 (tok b r) e) := by
  pointwise [val_main_v6, val_main_v5, val_main_v4, val_main_v3]

theorem cat_hi (b : Fin 4) (r : Fin 2048) (e : Fin 1024) :
    val_main_v6 (F := Ideal) x0 x1 (ix3 b r ⟨1024 + e.val, by omega⟩) = x1 (ix2 (tok b r) e) := by
  pointwise [val_main_v6, val_main_v5, val_main_v4, val_main_v3]

theorem mix_apply (b : Fin 4) (r : Fin 2048) (d : Fin 2048) :
    val_main_v7 (F := Ideal) x0 x1 x2 (ix3 b r d) = mixRow x0 x1 x2 b r d := by
  have h : val_main_v7 (F := Ideal) x0 x1 x2 (ix3 b r d)
      = ∑ e : Fin (1024 + 1024), val_main_v6 (F := Ideal) x0 x1 (ix3 b r e) * x2 (ix2 e d) := by
    unfold val_main_v7
    generalize val_main_v6 (F := Ideal) x0 x1 = y
    pointwise
    try rfl
  rw [h, Fin.sum_univ_add]
  refine congrArg₂ (fun x y : EReal => x + y) (Finset.sum_congr rfl fun e _ => ?_) (Finset.sum_congr rfl fun e _ => ?_)
  · exact congrArg (fun z : EReal => z * _) (cat_lo x0 x1 b r e)
  · exact congrArg (fun z : EReal => z * _) (cat_hi x0 x1 b r e)

theorem result_apply (b : Fin 4) (r : Fin 2048) (k : Fin 2048) :
    val_main_v23 (F := Ideal) x0 x1 x2 x3 x4 x5 (ix3 b r k) = result x0 x1 x2 x3 x4 x5 b r k := by
  simp only [result, fin, Ffn.norm, ← mix_apply]
  unfold val_main_v23 val_main_v22 val_main_v21 val_main_v20 val_main_v19 val_main_v18 val_main_v17 val_main_v16 val_main_v15
    val_main_v14 val_main_v13 val_main_cst_1 val_main_v12 val_main_v11 val_main_cst_0 val_main_v10 val_main_v9 val_main_cst
    val_main_v8
  generalize val_main_v7 (F := Ideal) x0 x1 x2 = y
  pointwise [val_main_v2, val_main_v1, val_main_v0]
  try rfl

end Cert.Proof.Mix

end

end
-- ==== Proof.MixValue.lean ====
/- The output projection kernel's result array: at every token, the reference's. -/
module

public import proofs.«01_k».proof.Proof.MixRef
public import proofs.«01_k».proof.Proof.Gen.Kernel4Ideal.Value
public import Idealize.ShloMosaic.Lib.Pipeline.ValueKit

@[expose] public section

set_option maxRecDepth 16384

noncomputable section

namespace Cert.Proof.Mix

open Idealize.ShloMosaic Cert.Proof.Ffn Cert.Kernel4Ideal Cert.Kernel4Ideal.Gen Idealize.ShloMosaic.TcCoe

variable (m : (ℓ : Loc nD τ sig) → Buf (Elt Ideal) ℓ) (c : Dev nD)

/-- Where each window's block lies at a grid point. -/
theorem idx : ∀ t : Fin cfg0.N,
    win0_0.index t = ![t.val, 0] ∧ win0_1.index t = ![t.val, 0] ∧ win0_2.index t = ![0, 0] ∧ win0_3.index t = ![0, 0]
      ∧ win0_4.index t = ![t.val / 4, t.val % 4, 0] ∧ win0_5.index t = ![128 + t.val / 4, 0, 0]
      ∧ win0_6.index t = ![0, 0] ∧ win0_7.index t = ![t.val / 4, t.val % 4, 0] :=
  (by decide +kernel : ∀ t : Fin grid0.N, _)

/-- The body's stored row, from its loads. -/
theorem pay_apply (o : Vec Ideal S512x1024 .bf16) (wt wb : Vec Ideal S1024x2048 .bf16) (y : Vec Ideal S512x1024 .f32)
    (g : Vec Ideal S1x2048 .f32) (x : Vec Ideal S1x512x2048 .f32) (gt : Vec Ideal S1x1x2048 .f32) (r : Fin 512) (k : Fin 2048) :
    k0_pay1 o wt y wb g x gt (ix3 0 r k)
      = fin (fun l => x (ix3 0 r l)) (fun l => gt (ix3 0 0 l))
          (fun d => (∑ e : Fin 1024, o (ix2 r e) * wt (ix2 e d)) + ∑ e : Fin 1024, y (ix2 r e) * wb (ix2 e d))
          (fun l => g (ix2 0 l)) k := by
  simp only [fin, Ffn.norm]
  pointwise [k0_pay1]
  try rfl

/-- The arguments' arrays. -/
abbrev X0 : Vec Ideal S8192x1024 .bf16 := m ((c : Thread nD τ).loc main_arg0)
abbrev X1 : Vec Ideal S8192x1024 .f32 := m ((c : Thread nD τ).loc main_arg1)
abbrev X2 : Vec Ideal S2048x2048 .f32 := m ((c : Thread nD τ).loc main_arg2)
abbrev X3 : Vec Ideal S4x2048x2048 .f32 := m ((c : Thread nD τ).loc main_arg3)
abbrev X4 : Vec Ideal S136x6x2048 .f32 := m ((c : Thread nD τ).loc main_arg4)
abbrev X5 : Vec Ideal S2048 .f32 := m ((c : Thread nD τ).loc main_arg5)

section reads

variable (t : Fin cfg0.N) (b : Fin 4) (R : Fin 2048) (r : Fin 512)

theorem read0 (hb : b.val = t.val / 4) (hR : R.val = t.val % 4 * 512 + r.val) (e : Fin 1024) :
    iblk m c 0 t (ix2 r e) = X0 m c (ix2 (tok b R) e) := by
  blk_ext [iblk, V, idx t]

theorem read1 (hb : b.val = t.val / 4) (hR : R.val = t.val % 4 * 512 + r.val) (e : Fin 1024) :
    iblk m c 1 t (ix2 r e) = X1 m c (ix2 (tok b R) e) := by
  blk_ext [iblk, V, idx t]

theorem read2 (e : Fin 1024) (d : Fin 2048) : iblk m c 2 t (ix2 e d) = X2 m c (ix2 ⟨e.val, by omega⟩ d) := by
  blk_point [iblk, V, idx t]

theorem read3 (e : Fin 1024) (d : Fin 2048) : iblk m c 3 t (ix2 e d) = X2 m c (ix2 ⟨1024 + e.val, by omega⟩ d) := by
  blk_point [iblk, V, idx t]

theorem read4 (hb : b.val = t.val / 4) (hR : R.val = t.val % 4 * 512 + r.val) (l : Fin 2048) :
    iblk m c 4 t (ix3 0 r l) = X3 m c (ix3 b R l) := by
  blk_ext [iblk, V, idx t]

theorem read5 (hb : b.val = t.val / 4) (j : Fin 6) (l : Fin 2048) :
    iblk m c 5 t (ix3 0 j l) = X4 m c (ix3 ⟨128 + b.val, by omega⟩ j l) := by
  blk_ext [iblk, V, idx t]

theorem read6 (l : Fin 2048) : iblk m c 6 t (ix2 0 l) = X5 m c (ix1 l) := by
  blk_point [iblk, V, idx t]

end reads

/-- The gate's row of the modulation block is the row read at its offset. -/
theorem gateRead (X : S1x6x2048.Idx → EReal) (inb) (l : Fin 2048) :
    X ((Rect.unit (s := S1x6x2048) ![0, 2, 0] ![1, 1, 2048] inb).idx (ix3 0 0 l)) = X (ix3 0 2 l) :=
  View.ld_unit_apply_of (e := .f32) (Val := Elt Ideal) X _ _ inb _ _ fun
    | 0 => rfl
    | 1 => rfl
    | 2 => (Nat.zero_add _).symm

/-- The kernel's result array is the reference's result over the argument arrays. -/
theorem final :
    (dats m 0 c).arrAt 7 cfg0.N
      = Cert.Reference4Ideal.Read.val_main_v23 (F := Ideal) (X0 m c) (X1 m c) (X2 m c) (X3 m c) (X4 m c) (X5 m c) := by
  refine (dats m 0 c).arrAt_eq_of_covers 7 _ (by decide +kernel) fun t hf y => ?_
  obtain ⟨z, r, k, rfl⟩ : ∃ (z : Fin 1) (r : Fin 512) (k : Fin 2048), y = ix3 z r k := ⟨_, _, _, eq_ix3 y⟩
  obtain rfl : z = 0 := Subsingleton.elim _ _
  have hN : t.val < 16 := lt_of_lt_of_eq t.isLt N_0
  obtain ⟨b, hb⟩ : ∃ b : Fin 4, b.val = t.val / 4 := ⟨⟨t.val / 4, by omega⟩, rfl⟩
  obtain ⟨R, hR⟩ : ∃ R : Fin 2048, R.val = t.val % 4 * 512 + r.val := ⟨⟨t.val % 4 * 512 + r.val, by omega⟩, rfl⟩
  have he : ((cfg0.win 7).blk t).view.emb (ix3 0 r k) = ix3 b R k := by
    blk_ext [idx t]
  rw [he]
  refine Eq.trans ?_ (result_apply _ _ _ _ _ _ b R k).symm
  blk_simp
  rw [after0_7]
  frame_out
  refine (pay_apply ..).trans ?_
  unfold result mixRow
  simp only [fun l => read4 m c t b R r hb hR l, fun e => read0 m c t b R r hb hR e, fun e => read1 m c t b R r hb hR e,
    fun e d => read2 m c t e d, fun e d => read3 m c t e d, fun l => read6 m c t l]
  rw [funext fun l => (gateRead (iblk m c 5 t) _ l).trans (read5 m c t b hb 2 l)]

end Cert.Proof.Mix

end

end
-- ==== Proof.lean ====
module

public import proofs.«01_k».proof.Defs
public import proofs.«01_k».proof.Proof.KernelFrame
public import proofs.«01_k».proof.Proof.Kernel2Frame
public import proofs.«01_k».proof.Proof.Kernel3Frame
public import proofs.«01_k».proof.Proof.Kernel4Frame
public import proofs.«01_k».proof.Proof.FfnValue
public import proofs.«01_k».proof.Proof.SFfnValue
public import proofs.«01_k».proof.Proof.MixValue
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent

@[expose] public section

noncomputable section

namespace Cert.Proof

open Idealize.ShloMosaic Idealize.SL.Sem

/-- The reference's run keeps its arguments, and the machine it runs on has no semaphore. -/
theorem reference2_frame : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run m ρ)

/-- The reference's run keeps its arguments, and the machine it runs on has no semaphore. -/
theorem reference3_frame : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run m ρ)

/-- The reference's run keeps its arguments, and the machine it runs on has no semaphore. -/
theorem reference4_frame : Cert.quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run m ρ)

/-- From memories agreeing on the arguments, the prompt feed-forward kernel's array is the reference's term. -/
theorem algebraic2 :
    Cert.algebraic_Kernel2Ideal_Reference2Ideal (hKernel2Ideal := Cert.Kernel2Ideal.Gen.facts)
      (hReference2Ideal := Cert.Reference2Ideal.Gen.facts) := by
  intro m ρ m' ρ' _ hag
  refine ⟨_, Cert.Kernel2Ideal.Value.run m ρ, (θ_run _ _ _).mono (fun r h c => ⟨?_, (h c).2⟩) (Cert.Reference2Ideal.Value.run m' ρ')⟩
  obtain ⟨a0, a1, a2, a3, a4, a5, a6⟩ := hag c
  rw [(h c).1, Cert.Reference2Ideal.Read.val_main_v48_eq, a0, a1, a2, a3, a4, a5, a6]
  exact (Ffn.final m c).symm

/-- The same of the second group's feed-forward kernel. -/
theorem algebraic3 :
    Cert.algebraic_Kernel3Ideal_Reference3Ideal (hKernel3Ideal := Cert.Kernel3Ideal.Gen.facts)
      (hReference3Ideal := Cert.Reference3Ideal.Gen.facts) := by
  intro m ρ m' ρ' _ hag
  refine ⟨_, Cert.Kernel3Ideal.Value.run m ρ, (θ_run _ _ _).mono (fun r h c => ⟨?_, (h c).2⟩) (Cert.Reference3Ideal.Value.run m' ρ')⟩
  obtain ⟨a0, a1, a2, a3, a4, a5, a6⟩ := hag c
  rw [(h c).1, Cert.Reference3Ideal.Read.val_main_v48_eq, a0, a1, a2, a3, a4, a5, a6]
  exact (SFfn.final m c).symm

/-- The same of the output projection kernel. -/
theorem algebraic4 :
    Cert.algebraic_Kernel4Ideal_Reference4Ideal (hKernel4Ideal := Cert.Kernel4Ideal.Gen.facts)
      (hReference4Ideal := Cert.Reference4Ideal.Gen.facts) := by
  intro m ρ m' ρ' _ hag
  refine ⟨_, Cert.Kernel4Ideal.Value.run_blocks m ρ, (θ_run _ _ _).mono (fun r h c => ⟨?_, (h c).2⟩) (Cert.Reference4Ideal.Value.run m' ρ')⟩
  obtain ⟨a0, a1, a2, a3, a4, a5⟩ := hag c
  rw [(h c).1, Cert.Reference4Ideal.Read.val_main_v23_eq, a0, a1, a2, a3, a4, a5]
  exact (Mix.final m c).symm

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Delta.kernel_frame, fun m ρ _ => Cert.KernelIdeal.Gen.frame m ρ,
    Ffn.kernel2_frame, fun m ρ _ => Cert.Kernel2Ideal.Gen.frame m ρ, reference2_frame,
    SFfn.kernel3_frame, fun m ρ _ => Cert.Kernel3Ideal.Gen.frame m ρ, reference3_frame,
    Mix.kernel4_frame, fun m ρ _ => Cert.Kernel4Ideal.Gen.frame m ρ, reference4_frame,
    trivial, trivial, algebraic2, trivial, algebraic3, trivial, algebraic4⟩

end Cert.Proof

end

end
